-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x512x1024 : Shape := ⟨3, ![2, 512, 1024]⟩
abbrev S2 : Shape := ⟨1, ![2]⟩
abbrev S7 : Shape := ⟨1, ![7]⟩
abbrev S5 : Shape := ⟨1, ![5]⟩
abbrev S6 : Shape := ⟨1, ![6]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S2x512x1024, .f32⟩
  | .local _ .vmem, ⟨3, _⟩ => ⟨S2x512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v78 : BitVec 32 := Scalar.muli v2 c4_i32_51
  let v79 : BitVec 32 := Scalar.addi c0_i32_52 v78
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_53 : BitVec 32 := 2#32
  let v80 : BitVec 32 := Scalar.muli v9 c2_i32_53
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v82 : BitVec 32 := Scalar.muli v8 c1_i32_54
  let v83 : BitVec 32 := Scalar.addi v81 v82
  v83.toNat
def k0_dev2 (d0 : Dev nD) : Nat :=
  let c0_i32_57 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_56 : BitVec 32 := 4#32
  let v84 : BitVec 32 := Scalar.muli v10 c4_i32_56
  let v85 : BitVec 32 := Scalar.addi c0_i32_57 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v86 : BitVec 32 := Scalar.muli v5 c2_i32_58
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v88 : BitVec 32 := Scalar.muli v8 c1_i32_59
  let v89 : BitVec 32 := Scalar.addi v87 v88
  v89.toNat
def k0_dev3 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v90 : BitVec 32 := Scalar.muli v2 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v92 : BitVec 32 := Scalar.muli v5 c2_i32_63
  let v93 : BitVec 32 := Scalar.addi v91 v92
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_64 : BitVec 32 := 1#32
  let v94 : BitVec 32 := Scalar.muli v11 c1_i32_64
  let v95 : BitVec 32 := Scalar.addi v93 v94
  v95.toNat
def k0_off1 (d0 : Dev nD) : Fin 2 → Nat :=
  let c4096_i32 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c4096_i32 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32 : BitVec 32 := 7168#32
  let c8192_i32 : BitVec 32 := 8192#32
  let v13 : BitVec 32 := Scalar.muli c8192_i32 v2
  let v14 : BitVec 32 := Scalar.subi c7168_i32 v13
  let v15 : BitVec 32 := Scalar.muli v8 v14
  let v16 : BitVec 32 := Scalar.addi v12 v15
  let c0_i32_69 : BitVec 32 := 0#32
  ![v16.toNat, 0]
def k0_off2 (d0 : Dev nD) : Fin 2 → Nat :=
  let c4096_i32 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c4096_i32 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32 : BitVec 32 := 7168#32
  let c8192_i32 : BitVec 32 := 8192#32
  let v13 : BitVec 32 := Scalar.muli c8192_i32 v2
  let v14 : BitVec 32 := Scalar.subi c7168_i32 v13
  let v15 : BitVec 32 := Scalar.muli v8 v14
  let v16 : BitVec 32 := Scalar.addi v12 v15
  let c512_i32 : BitVec 32 := 512#32
  let v52 : BitVec 32 := Scalar.addi v16 c512_i32
  let c0_i32_74 : BitVec 32 := 0#32
  ![v52.toNat, 0]
def k0_off3 (d0 : Dev nD) : Fin 2 → Nat :=
  let c4096_i32 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c4096_i32 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32 : BitVec 32 := 7168#32
  let c8192_i32 : BitVec 32 := 8192#32
  let v13 : BitVec 32 := Scalar.muli c8192_i32 v2
  let v14 : BitVec 32 := Scalar.subi c7168_i32 v13
  let v15 : BitVec 32 := Scalar.muli v8 v14
  let v16 : BitVec 32 := Scalar.addi v12 v15
  let v114 : Index := Scalar.indexCast v16
  let c0_82 : Index := 0#32
  ![v114.toNat, 0]
def k0_off4 (d0 : Dev nD) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let c0_i32_87 : BitVec 32 := 0#32
  ![v48.toNat, 0]
def k0_dev4 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v123 : BitVec 32 := Scalar.muli v2 c4_i32_90
  let v124 : BitVec 32 := Scalar.addi c0_i32_91 v123
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_92 : BitVec 32 := 2#32
  let v125 : BitVec 32 := Scalar.muli v9 c2_i32_92
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v127 : BitVec 32 := Scalar.muli v8 c1_i32_93
  let v128 : BitVec 32 := Scalar.addi v126 v127
  v128.toNat
def k0_off5 (d0 : Dev nD) : Fin 2 → Nat :=
  let c4096_i32 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c4096_i32 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32 : BitVec 32 := 7168#32
  let c8192_i32 : BitVec 32 := 8192#32
  let v13 : BitVec 32 := Scalar.muli c8192_i32 v2
  let v14 : BitVec 32 := Scalar.subi c7168_i32 v13
  let v15 : BitVec 32 := Scalar.muli v8 v14
  let v16 : BitVec 32 := Scalar.addi v12 v15
  let c512_i32 : BitVec 32 := 512#32
  let v52 : BitVec 32 := Scalar.addi v16 c512_i32
  let v143 : Index := Scalar.indexCast v52
  let c0_103 : Index := 0#32
  ![v143.toNat, 0]
def k0_off6 (d0 : Dev nD) (c512_i32_28 : BitVec 32) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let v53 : BitVec 32 := Scalar.addi v48 c512_i32_28
  let c0_i32_108 : BitVec 32 := 0#32
  ![v53.toNat, 0]
def k0_dev5 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v152 : BitVec 32 := Scalar.muli v2 c4_i32_111
  let v153 : BitVec 32 := Scalar.addi c0_i32_112 v152
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_113 : BitVec 32 := 2#32
  let v154 : BitVec 32 := Scalar.muli v9 c2_i32_113
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v156 : BitVec 32 := Scalar.muli v8 c1_i32_114
  let v157 : BitVec 32 := Scalar.addi v155 v156
  v157.toNat
def k0_off7 (d0 : Dev nD) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let v172 : Index := Scalar.indexCast v48
  let c0_125 : Index := 0#32
  ![v172.toNat, 0]
def k0_dev6 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v181 : BitVec 32 := Scalar.muli v2 c4_i32_133
  let v182 : BitVec 32 := Scalar.addi c0_i32_134 v181
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_135 : BitVec 32 := 2#32
  let v183 : BitVec 32 := Scalar.muli v9 c2_i32_135
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v185 : BitVec 32 := Scalar.muli v8 c1_i32_136
  let v186 : BitVec 32 := Scalar.addi v184 v185
  v186.toNat
def k0_off8 (d0 : Dev nD) (c512_i32_28 : BitVec 32) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let v53 : BitVec 32 := Scalar.addi v48 c512_i32_28
  let v201 : Index := Scalar.indexCast v53
  let c0_147 : Index := 0#32
  ![v201.toNat, 0]
def k0_off9 (d0 : Dev nD) (c1536_i32 : BitVec 32) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let v55 : BitVec 32 := Scalar.addi v48 c1536_i32
  let c0_i32_152 : BitVec 32 := 0#32
  ![v55.toNat, 0]
def k0_dev7 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v210 : BitVec 32 := Scalar.muli v2 c4_i32_155
  let v211 : BitVec 32 := Scalar.addi c0_i32_156 v210
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_157 : BitVec 32 := 2#32
  let v212 : BitVec 32 := Scalar.muli v9 c2_i32_157
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v214 : BitVec 32 := Scalar.muli v8 c1_i32_158
  let v215 : BitVec 32 := Scalar.addi v213 v214
  v215.toNat
def k0_dev8 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v239 : BitVec 32 := Scalar.muli v2 c4_i32_177
  let v240 : BitVec 32 := Scalar.addi c0_i32_178 v239
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_179 : BitVec 32 := 2#32
  let v241 : BitVec 32 := Scalar.muli v9 c2_i32_179
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v243 : BitVec 32 := Scalar.muli v8 c1_i32_180
  let v244 : BitVec 32 := Scalar.addi v242 v243
  v244.toNat
def k0_off10 (d0 : Dev nD) (c1536_i32 : BitVec 32) : Fin 2 → Nat :=
  let c1024_i32 : BitVec 32 := 1024#32
  let c4096_i32_24 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v47 : BitVec 32 := Scalar.muli c4096_i32_24 v46
  let v48 : BitVec 32 := Scalar.addi c1024_i32 v47
  let v55 : BitVec 32 := Scalar.addi v48 c1536_i32
  let v259 : Index := Scalar.indexCast v55
  let c0_191 : Index := 0#32
  ![v259.toNat, 0]
def k0_off11 (d0 : Dev nD) : Fin 2 → Nat :=
  let c4096_i32_7 : BitVec 32 := 4096#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_6 v2
  let v18 : BitVec 32 := Scalar.muli c4096_i32_7 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32_9 : BitVec 32 := 7168#32
  let c8192_i32_8 : BitVec 32 := 8192#32
  let v19 : BitVec 32 := Scalar.muli c8192_i32_8 v17
  let v20 : BitVec 32 := Scalar.subi c7168_i32_9 v19
  let v21 : BitVec 32 := Scalar.muli v8 v20
  let v22 : BitVec 32 := Scalar.addi v18 v21
  let c0_i32_196 : BitVec 32 := 0#32
  ![v22.toNat, 0]
def k0_dev9 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v268 : BitVec 32 := Scalar.muli v2 c4_i32_198
  let v269 : BitVec 32 := Scalar.addi c0_i32_199 v268
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_200 : BitVec 32 := 2#32
  let v270 : BitVec 32 := Scalar.muli v9 c2_i32_200
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v272 : BitVec 32 := Scalar.muli v8 c1_i32_201
  let v273 : BitVec 32 := Scalar.addi v271 v272
  v273.toNat
def k0_off12 (d0 : Dev nD) : Fin 2 → Nat :=
  let c4096_i32_7 : BitVec 32 := 4096#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_6 v2
  let v18 : BitVec 32 := Scalar.muli c4096_i32_7 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32_9 : BitVec 32 := 7168#32
  let c8192_i32_8 : BitVec 32 := 8192#32
  let v19 : BitVec 32 := Scalar.muli c8192_i32_8 v17
  let v20 : BitVec 32 := Scalar.subi c7168_i32_9 v19
  let v21 : BitVec 32 := Scalar.muli v8 v20
  let v22 : BitVec 32 := Scalar.addi v18 v21
  let c512_i32_44 : BitVec 32 := 512#32
  let v71 : BitVec 32 := Scalar.addi v22 c512_i32_44
  let c0_i32_217 : BitVec 32 := 0#32
  ![v71.toNat, 0]
def k0_dev10 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v297 : BitVec 32 := Scalar.muli v2 c4_i32_219
  let v298 : BitVec 32 := Scalar.addi c0_i32_220 v297
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_221 : BitVec 32 := 2#32
  let v299 : BitVec 32 := Scalar.muli v9 c2_i32_221
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_222 : BitVec 32 := 1#32
  let v301 : BitVec 32 := Scalar.muli v8 c1_i32_222
  let v302 : BitVec 32 := Scalar.addi v300 v301
  v302.toNat
def k0_dev11 (d0 : Dev nD) : Nat :=
  let c0_i32_236 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_235 : BitVec 32 := 4#32
  let v319 : BitVec 32 := Scalar.muli v10 c4_i32_235
  let v320 : BitVec 32 := Scalar.addi c0_i32_236 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v321 : BitVec 32 := Scalar.muli v5 c2_i32_237
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v323 : BitVec 32 := Scalar.muli v8 c1_i32_238
  let v324 : BitVec 32 := Scalar.addi v322 v323
  v324.toNat
def k0_dev12 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v331 : BitVec 32 := Scalar.muli v2 c4_i32_243
  let v332 : BitVec 32 := Scalar.addi c0_i32_244 v331
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v333 : BitVec 32 := Scalar.muli v5 c2_i32_245
  let v334 : BitVec 32 := Scalar.addi v332 v333
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_246 : BitVec 32 := 1#32
  let v335 : BitVec 32 := Scalar.muli v11 c1_i32_246
  let v336 : BitVec 32 := Scalar.addi v334 v335
  v336.toNat
def k0_off13 (d0 : Dev nD) : Fin 2 → Nat :=
  let c4096_i32_7 : BitVec 32 := 4096#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_6 v2
  let v18 : BitVec 32 := Scalar.muli c4096_i32_7 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32_9 : BitVec 32 := 7168#32
  let c8192_i32_8 : BitVec 32 := 8192#32
  let v19 : BitVec 32 := Scalar.muli c8192_i32_8 v17
  let v20 : BitVec 32 := Scalar.subi c7168_i32_9 v19
  let v21 : BitVec 32 := Scalar.muli v8 v20
  let v22 : BitVec 32 := Scalar.addi v18 v21
  let v351 : Index := Scalar.indexCast v22
  let c0_257 : Index := 0#32
  ![v351.toNat, 0]
def k0_off14 (d0 : Dev nD) : Fin 2 → Nat :=
  let c4096_i32_11 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4096_i32_11 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_10 v8
  let c7168_i32_13 : BitVec 32 := 7168#32
  let c8192_i32_12 : BitVec 32 := 8192#32
  let v25 : BitVec 32 := Scalar.muli c8192_i32_12 v2
  let v26 : BitVec 32 := Scalar.subi c7168_i32_13 v25
  let v27 : BitVec 32 := Scalar.muli v23 v26
  let v28 : BitVec 32 := Scalar.addi v24 v27
  let c0_i32_262 : BitVec 32 := 0#32
  ![v28.toNat, 0]
def k0_dev13 (d0 : Dev nD) : Nat :=
  let c0_i32_284 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_283 : BitVec 32 := 4#32
  let v383 : BitVec 32 := Scalar.muli v10 c4_i32_283
  let v384 : BitVec 32 := Scalar.addi c0_i32_284 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v385 : BitVec 32 := Scalar.muli v5 c2_i32_285
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v387 : BitVec 32 := Scalar.muli v8 c1_i32_286
  let v388 : BitVec 32 := Scalar.addi v386 v387
  v388.toNat
def k0_dev14 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v395 : BitVec 32 := Scalar.muli v2 c4_i32_291
  let v396 : BitVec 32 := Scalar.addi c0_i32_292 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v397 : BitVec 32 := Scalar.muli v5 c2_i32_293
  let v398 : BitVec 32 := Scalar.addi v396 v397
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_294 : BitVec 32 := 1#32
  let v399 : BitVec 32 := Scalar.muli v11 c1_i32_294
  let v400 : BitVec 32 := Scalar.addi v398 v399
  v400.toNat
def k0_off15 (d0 : Dev nD) : Fin 2 → Nat :=
  let c4096_i32_7 : BitVec 32 := 4096#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_6 v2
  let v18 : BitVec 32 := Scalar.muli c4096_i32_7 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c7168_i32_9 : BitVec 32 := 7168#32
  let c8192_i32_8 : BitVec 32 := 8192#32
  let v19 : BitVec 32 := Scalar.muli c8192_i32_8 v17
  let v20 : BitVec 32 := Scalar.subi c7168_i32_9 v19
  let v21 : BitVec 32 := Scalar.muli v8 v20
  let v22 : BitVec 32 := Scalar.addi v18 v21
  let c512_i32_44 : BitVec 32 := 512#32
  let v71 : BitVec 32 := Scalar.addi v22 c512_i32_44
  let v415 : Index := Scalar.indexCast v71
  let c0_305 : Index := 0#32
  ![v415.toNat, 0]
def k0_off16 (d0 : Dev nD) : Fin 2 → Nat :=
  let c4096_i32_11 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4096_i32_11 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_10 v8
  let c7168_i32_13 : BitVec 32 := 7168#32
  let c8192_i32_12 : BitVec 32 := 8192#32
  let v25 : BitVec 32 := Scalar.muli c8192_i32_12 v2
  let v26 : BitVec 32 := Scalar.subi c7168_i32_13 v25
  let v27 : BitVec 32 := Scalar.muli v23 v26
  let v28 : BitVec 32 := Scalar.addi v24 v27
  let c512_i32_45 : BitVec 32 := 512#32
  let v72 : BitVec 32 := Scalar.addi v28 c512_i32_45
  let c0_i32_310 : BitVec 32 := 0#32
  ![v72.toNat, 0]
def k0_dev15 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v448 : BitVec 32 := Scalar.muli v2 c4_i32_332
  let v449 : BitVec 32 := Scalar.addi c0_i32_333 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_334 : BitVec 32 := 2#32
  let v450 : BitVec 32 := Scalar.muli v5 c2_i32_334
  let v451 : BitVec 32 := Scalar.addi v449 v450
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_335 : BitVec 32 := 1#32
  let v452 : BitVec 32 := Scalar.muli v11 c1_i32_335
  let v453 : BitVec 32 := Scalar.addi v451 v452
  v453.toNat
def k0_off17 (d0 : Dev nD) : Fin 2 → Nat :=
  let c4096_i32_11 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4096_i32_11 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_10 v8
  let c7168_i32_13 : BitVec 32 := 7168#32
  let c8192_i32_12 : BitVec 32 := 8192#32
  let v25 : BitVec 32 := Scalar.muli c8192_i32_12 v2
  let v26 : BitVec 32 := Scalar.subi c7168_i32_13 v25
  let v27 : BitVec 32 := Scalar.muli v23 v26
  let v28 : BitVec 32 := Scalar.addi v24 v27
  let v468 : Index := Scalar.indexCast v28
  let c0_346 : Index := 0#32
  ![v468.toNat, 0]
def k0_off18 (d0 : Dev nD) : Fin 2 → Nat :=
  let c4096_i32_16 : BitVec 32 := 4096#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let v31 : BitVec 32 := Scalar.muli c4096_i32_16 v29
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_15 v8
  let c7168_i32_18 : BitVec 32 := 7168#32
  let c8192_i32_17 : BitVec 32 := 8192#32
  let v32 : BitVec 32 := Scalar.muli c8192_i32_17 v29
  let v33 : BitVec 32 := Scalar.subi c7168_i32_18 v32
  let v34 : BitVec 32 := Scalar.muli v30 v33
  let v35 : BitVec 32 := Scalar.addi v31 v34
  let c0_i32_351 : BitVec 32 := 0#32
  ![v35.toNat, 0]
def k0_off19 (d0 : Dev nD) : Fin 2 → Nat :=
  let c4096_i32_11 : BitVec 32 := 4096#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c4096_i32_11 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_10 v8
  let c7168_i32_13 : BitVec 32 := 7168#32
  let c8192_i32_12 : BitVec 32 := 8192#32
  let v25 : BitVec 32 := Scalar.muli c8192_i32_12 v2
  let v26 : BitVec 32 := Scalar.subi c7168_i32_13 v25
  let v27 : BitVec 32 := Scalar.muli v23 v26
  let v28 : BitVec 32 := Scalar.addi v24 v27
  let c512_i32_45 : BitVec 32 := 512#32
  let v72 : BitVec 32 := Scalar.addi v28 c512_i32_45
  let v513 : Index := Scalar.indexCast v72
  let c0_383 : Index := 0#32
  ![v513.toNat, 0]
def k0_off20 (d0 : Dev nD) : Fin 2 → Nat :=
  let c4096_i32_16 : BitVec 32 := 4096#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let v31 : BitVec 32 := Scalar.muli c4096_i32_16 v29
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_15 v8
  let c7168_i32_18 : BitVec 32 := 7168#32
  let c8192_i32_17 : BitVec 32 := 8192#32
  let v32 : BitVec 32 := Scalar.muli c8192_i32_17 v29
  let v33 : BitVec 32 := Scalar.subi c7168_i32_18 v32
  let v34 : BitVec 32 := Scalar.muli v30 v33
  let v35 : BitVec 32 := Scalar.addi v31 v34
  let c512_i32_46 : BitVec 32 := 512#32
  let v73 : BitVec 32 := Scalar.addi v35 c512_i32_46
  let c0_i32_388 : BitVec 32 := 0#32
  ![v73.toNat, 0]
def k0_dev16 (d0 : Dev nD) : Nat :=
  let c0_i32_415 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_414 : BitVec 32 := 4#32
  let v550 : BitVec 32 := Scalar.muli v10 c4_i32_414
  let v551 : BitVec 32 := Scalar.addi c0_i32_415 v550
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_416 : BitVec 32 := 2#32
  let v552 : BitVec 32 := Scalar.muli v5 c2_i32_416
  let v553 : BitVec 32 := Scalar.addi v551 v552
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_417 : BitVec 32 := 1#32
  let v554 : BitVec 32 := Scalar.muli v8 c1_i32_417
  let v555 : BitVec 32 := Scalar.addi v553 v554
  v555.toNat
def k0_off21 (d0 : Dev nD) : Fin 2 → Nat :=
  let c4096_i32_16 : BitVec 32 := 4096#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let v31 : BitVec 32 := Scalar.muli c4096_i32_16 v29
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_15 v8
  let c7168_i32_18 : BitVec 32 := 7168#32
  let c8192_i32_17 : BitVec 32 := 8192#32
  let v32 : BitVec 32 := Scalar.muli c8192_i32_17 v29
  let v33 : BitVec 32 := Scalar.subi c7168_i32_18 v32
  let v34 : BitVec 32 := Scalar.muli v30 v33
  let v35 : BitVec 32 := Scalar.addi v31 v34
  let v570 : Index := Scalar.indexCast v35
  let c0_428 : Index := 0#32
  ![v570.toNat, 0]
def k0_off22 (d0 : Dev nD) : Fin 2 → Nat :=
  let c1024_i32_27 : BitVec 32 := 1024#32
  let c4096_i32_26 : BitVec 32 := 4096#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v49 : BitVec 32 := Scalar.subi c1_i32_25 v46
  let v50 : BitVec 32 := Scalar.muli c4096_i32_26 v49
  let v51 : BitVec 32 := Scalar.addi c1024_i32_27 v50
  let c0_i32_433 : BitVec 32 := 0#32
  ![v51.toNat, 0]
def k0_dev17 (d0 : Dev nD) : Nat :=
  let c0_i32_461 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_460 : BitVec 32 := 4#32
  let v608 : BitVec 32 := Scalar.muli v10 c4_i32_460
  let v609 : BitVec 32 := Scalar.addi c0_i32_461 v608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v610 : BitVec 32 := Scalar.muli v5 c2_i32_462
  let v611 : BitVec 32 := Scalar.addi v609 v610
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_463 : BitVec 32 := 1#32
  let v612 : BitVec 32 := Scalar.muli v8 c1_i32_463
  let v613 : BitVec 32 := Scalar.addi v611 v612
  v613.toNat
def k0_off23 (d0 : Dev nD) : Fin 2 → Nat :=
  let c4096_i32_16 : BitVec 32 := 4096#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_14 v2
  let v31 : BitVec 32 := Scalar.muli c4096_i32_16 v29
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_15 v8
  let c7168_i32_18 : BitVec 32 := 7168#32
  let c8192_i32_17 : BitVec 32 := 8192#32
  let v32 : BitVec 32 := Scalar.muli c8192_i32_17 v29
  let v33 : BitVec 32 := Scalar.subi c7168_i32_18 v32
  let v34 : BitVec 32 := Scalar.muli v30 v33
  let v35 : BitVec 32 := Scalar.addi v31 v34
  let c512_i32_46 : BitVec 32 := 512#32
  let v73 : BitVec 32 := Scalar.addi v35 c512_i32_46
  let v628 : Index := Scalar.indexCast v73
  let c0_474 : Index := 0#32
  ![v628.toNat, 0]
def k0_off24 (d0 : Dev nD) (c512_i32_47 : BitVec 32) : Fin 2 → Nat :=
  let c1024_i32_27 : BitVec 32 := 1024#32
  let c4096_i32_26 : BitVec 32 := 4096#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v49 : BitVec 32 := Scalar.subi c1_i32_25 v46
  let v50 : BitVec 32 := Scalar.muli c4096_i32_26 v49
  let v51 : BitVec 32 := Scalar.addi c1024_i32_27 v50
  let v74 : BitVec 32 := Scalar.addi v51 c512_i32_47
  let c0_i32_479 : BitVec 32 := 0#32
  ![v74.toNat, 0]
def k0_off25 (d0 : Dev nD) : Fin 2 → Nat :=
  let c1024_i32_27 : BitVec 32 := 1024#32
  let c4096_i32_26 : BitVec 32 := 4096#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v49 : BitVec 32 := Scalar.subi c1_i32_25 v46
  let v50 : BitVec 32 := Scalar.muli c4096_i32_26 v49
  let v51 : BitVec 32 := Scalar.addi c1024_i32_27 v50
  let v673 : Index := Scalar.indexCast v51
  let c0_511 : Index := 0#32
  ![v673.toNat, 0]
def k0_dev18 (d0 : Dev nD) : Nat :=
  let c0_i32_544 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_543 : BitVec 32 := 4#32
  let v711 : BitVec 32 := Scalar.muli v10 c4_i32_543
  let v712 : BitVec 32 := Scalar.addi c0_i32_544 v711
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_545 : BitVec 32 := 2#32
  let v713 : BitVec 32 := Scalar.muli v5 c2_i32_545
  let v714 : BitVec 32 := Scalar.addi v712 v713
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_546 : BitVec 32 := 1#32
  let v715 : BitVec 32 := Scalar.muli v8 c1_i32_546
  let v716 : BitVec 32 := Scalar.addi v714 v715
  v716.toNat
def k0_off26 (d0 : Dev nD) (c512_i32_47 : BitVec 32) : Fin 2 → Nat :=
  let c1024_i32_27 : BitVec 32 := 1024#32
  let c4096_i32_26 : BitVec 32 := 4096#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v49 : BitVec 32 := Scalar.subi c1_i32_25 v46
  let v50 : BitVec 32 := Scalar.muli c4096_i32_26 v49
  let v51 : BitVec 32 := Scalar.addi c1024_i32_27 v50
  let v74 : BitVec 32 := Scalar.addi v51 c512_i32_47
  let v731 : Index := Scalar.indexCast v74
  let c0_557 : Index := 0#32
  ![v731.toNat, 0]
def k0_dev19 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v769 : BitVec 32 := Scalar.muli v2 c4_i32_589
  let v770 : BitVec 32 := Scalar.addi c0_i32_590 v769
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_591 : BitVec 32 := 2#32
  let v771 : BitVec 32 := Scalar.muli v5 c2_i32_591
  let v772 : BitVec 32 := Scalar.addi v770 v771
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_592 : BitVec 32 := 1#32
  let v773 : BitVec 32 := Scalar.muli v11 c1_i32_592
  let v774 : BitVec 32 := Scalar.addi v772 v773
  v774.toNat
def k0_dev20 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v822 : BitVec 32 := Scalar.muli v2 c4_i32_630
  let v823 : BitVec 32 := Scalar.addi c0_i32_631 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v824 : BitVec 32 := Scalar.muli v5 c2_i32_632
  let v825 : BitVec 32 := Scalar.addi v823 v824
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_633 : BitVec 32 := 1#32
  let v826 : BitVec 32 := Scalar.muli v11 c1_i32_633
  let v827 : BitVec 32 := Scalar.addi v825 v826
  v827.toNat
def k0_dev21 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v856 : BitVec 32 := Scalar.muli v2 c4_i32_655
  let v857 : BitVec 32 := Scalar.addi c0_i32_656 v856
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v858 : BitVec 32 := Scalar.muli v5 c2_i32_657
  let v859 : BitVec 32 := Scalar.addi v857 v858
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_658 : BitVec 32 := 1#32
  let v860 : BitVec 32 := Scalar.muli v11 c1_i32_658
  let v861 : BitVec 32 := Scalar.addi v859 v860
  v861.toNat
def k0_off27 (d0 : Dev nD) (c1536_i32_42 : BitVec 32) : Fin 2 → Nat :=
  let c1024_i32_27 : BitVec 32 := 1024#32
  let c4096_i32_26 : BitVec 32 := 4096#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.addi v2 v8
  let c2_i32_19 : BitVec 32 := 2#32
  let c0_i32 : BitVec 32 := 0#32
  let v37 : BitVec 1 := Scalar.cmpi .eq c2_i32_19 c0_i32
  let c1_i32_20 : BitVec 32 := 1#32
  let v38 : BitVec 32 := Scalar.select v37 c1_i32_20 c2_i32_19
  let v39 : BitVec 32 := Scalar.remsi v36 v38
  let c0_i32_22 : BitVec 32 := 0#32
  let v41 : BitVec 1 := Scalar.cmpi .slt v39 c0_i32_22
  let c0_i32_23 : BitVec 32 := 0#32
  let v42 : BitVec 1 := Scalar.cmpi .slt v38 c0_i32_23
  let v43 : BitVec 1 := Scalar.xori v41 v42
  let c0_i32_21 : BitVec 32 := 0#32
  let v40 : BitVec 1 := Scalar.cmpi .ne v39 c0_i32_21
  let v44 : BitVec 1 := Scalar.andi v43 v40
  let v45 : BitVec 32 := Scalar.addi v39 v38
  let v46 : BitVec 32 := Scalar.select v44 v45 v39
  let v49 : BitVec 32 := Scalar.subi c1_i32_25 v46
  let v50 : BitVec 32 := Scalar.muli c4096_i32_26 v49
  let v51 : BitVec 32 := Scalar.addi c1024_i32_27 v50
  let v69 : BitVec 32 := Scalar.addi v51 c1536_i32_42
  let c0_i32_754 : BitVec 32 := 0#32
  ![v69.toNat, 0]
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S2x8192x1024, .f32⟩
  | .hbm, ⟨4, _⟩ => ⟨S_, .f32⟩
  | .hbm, ⟨5, _⟩ => ⟨S8192x1024, .f32⟩
  | .hbm, ⟨6, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Moves.lean ====
module

public import proofs.«01_k».proof.Proof.Gen.KernelIdeal.Skeleton
public import proofs.«01_k».proof.Proof.Gen.KernelIdeal.Points
public import Idealize.ShloMosaic.Lib.Rounds
public import Idealize.ShloMosaic.Lib.Pipeline.Kit

/-!
# The moves of the kernel

The body repeats six moves: start a copy of rows of the argument into a slot of the stage buffer; wait for it and
store the rows, narrowed to bf16, in `own`; send rows to a neighbour; wait on one of the send or receive
semaphores; add `own` and `recv` on 512 rows and start the copy of the sum to the result; wait for such a copy.
Each is written here once, over the rows it works on, with the rest of the program as its last argument.
-/

@[expose] public section

noncomputable section

namespace Cert.KernelIdeal.AllReduce

open Idealize.ShloMosaic Idealize.ShloMosaic.TcCoe
open Idealize.SL Idealize.SL.Sem
open Cert.KernelIdeal Cert.KernelIdeal.Gen

variable {F : FTy → Type} [FloatOps F]

/-- The program of one device. -/
abbrev Run (F : FTy → Type) [FloatOps F] := Prog (TpuEff nD τ sig (Elt F) Λ₀ .tc) PUnit.{1}

/-- `n` rows of 1024. -/
abbrev Rows (n : ℕ) : Shape := ⟨2, ![n, 1024]⟩
/-- `n` rows of 1024 of one slot. -/
abbrev Slab (n : ℕ) : Shape := ⟨3, ![1, n, 1024]⟩

/-- `n` rows fit in a slot, and a slab of them reshapes to rows and back. -/
structure Fits (n : ℕ) : Prop where
  le : n ≤ 512
  pos : 0 < (Rows n).numel
  posSlab : 0 < (Slab n).numel
  squeeze : (Slab n).Squeezes (Rows n)
  toRows : (Slab n).ShapeCasts (Rows n)
  same : (Rows n).ShapeCasts (Rows n)
  toSlab : (Rows n).ShapeCasts (Slab n)

theorem fits512 : Fits 512 where
  le := le_rfl
  pos := h_S512x1024
  posSlab := h_S1x512x1024
  squeeze := squeezes_S1x512x1024_S512x1024
  toRows := shapeCasts_S1x512x1024_S512x1024
  same := shapeCasts_S512x1024_S512x1024
  toSlab := shapeCasts_S512x1024_S1x512x1024

theorem fits256 : Fits 256 where
  le := by decide
  pos := h_S256x1024
  posSlab := h_S1x256x1024
  squeeze := by decide
  toRows := shapeCasts_S1x256x1024_S256x1024
  same := shapeCasts_S256x1024_S256x1024
  toSlab := by decide

variable {n : ℕ}

theorem Fits.inb (h : Fits n) (b : Fin 2) : ∀ a, (![b.val, 0, 0] : Fin 3 → ℕ) a + (Slab n).size a ≤ S2x512x1024.size a := by
  intro a
  have := h.le
  have hb := b.isLt
  fin_cases a
  · show b.val + 1 ≤ 2; omega
  · show 0 + n ≤ 512; omega
  · exact le_rfl

/-- An offset leaves room for `n` rows. -/
abbrev Inb (n : ℕ) (o : Fin 2 → ℕ) : Prop := ∀ a, o a + (Rows n).size a ≤ S8192x1024.size a

/-- The rectangle of `n` rows at `o`. -/
abbrev rectAt (n : ℕ) (o : Fin 2 → ℕ) (hi : Inb n o) : Rect S8192x1024 := Rect.unit (s := S8192x1024) o (Rows n).size hi
/-- The rectangle of the first `n` rows of slot `b`. -/
abbrev slotRect (h : Fits n) (b : Fin 2) : Rect S2x512x1024 := Rect.unit (s := S2x512x1024) ![b.val, 0, 0] (Slab n).size (h.inb b)

abbrev argM : Memref sig .tc .hbm S8192x1024 .f32 := Memref.whole main_arg0
abbrev outM : Memref sig .tc .hbm S8192x1024 .bf16 := Memref.whole main_v1
abbrev own : Memref sig .tc .vmem S8192x1024 .bf16 := Memref.whole cc0_scratch0
abbrev recv : Memref sig .tc .vmem S8192x1024 .bf16 := Memref.whole cc0_scratch1
abbrev stage : Memref sig .tc .vmem S2x512x1024 .f32 := Memref.whole cc0_scratch2
abbrev ostage : Memref sig .tc .vmem S2x512x1024 .bf16 := Memref.whole cc0_scratch3

abbrev inS (i : Fin 2) : DmaSem sig := ⟨i.val, by have := i.isLt; show _ < 40; omega⟩
abbrev outS (i : Fin 2) : DmaSem sig := ⟨2 + i.val, by have := i.isLt; show _ < 40; omega⟩
abbrev sy (i : Fin 7) : DmaSem sig := ⟨4 + i.val, by have := i.isLt; show _ < 40; omega⟩
abbrev ry (i : Fin 7) : DmaSem sig := ⟨11 + i.val, by have := i.isLt; show _ < 40; omega⟩
abbrev sx (i : Fin 5) : DmaSem sig := ⟨18 + i.val, by have := i.isLt; show _ < 40; omega⟩
abbrev rx (i : Fin 5) : DmaSem sig := ⟨23 + i.val, by have := i.isLt; show _ < 40; omega⟩
abbrev sz (i : Fin 6) : DmaSem sig := ⟨28 + i.val, by have := i.isLt; show _ < 40; omega⟩
abbrev rz (i : Fin 6) : DmaSem sig := ⟨34 + i.val, by have := i.isLt; show _ < 40; omega⟩

/-- Rows of an 8192-row buffer as a buffer of their own. -/
abbrev rowsOf {sp : Space} {e : EltTy} (M : Memref sig .tc sp S8192x1024 e) (n : ℕ) (o : Fin 2 → ℕ) (hi : Inb n o) :
    Memref sig .tc sp (Rows n) e :=
  M.slice (rectAt n o hi) (fun _ => rfl)
/-- The first `n` rows of a slot of a two-slot buffer, as rows. -/
abbrev slotOf {e : EltTy} (M : Memref sig .tc .vmem S2x512x1024 e) (h : Fits n) (b : Fin 2) : Memref sig .tc .vmem (Rows n) e :=
  (M.slice (slotRect h b) (fun _ => rfl)).squeeze (Rows n) h.squeeze

/-- What one cast stores: the slab as rows, narrowed. -/
def castPay (h : Fits n) (v : Vec F (Slab n) .f32) : FVec F (Rows n) .bf16 :=
  shapeCast (Rows n) (truncf .bf16 (shapeCast (Rows n) v h.toRows) bitsLt_bf16_f32) h.same
/-- What one emission stores: the sum of the two blocks, as a slab. -/
def sumPay (a b : Vec F (Rows 512) .bf16) : FVec F (Slab 512) .bf16 :=
  shapeCast (Slab 512) (addf a b) fits512.toSlab

theorem slot_packed (b : Fin 2) : (slotRect fits512 b).PackedRows (EltTy.packing .bf16) := by
  fin_cases b
  · exact packedbf16_S2x512x1024_S1x512x1024_0_0_0
  · exact packedbf16_S2x512x1024_S1x512x1024_1_0_0
theorem slot_words (b : Fin 2) : (slotRect fits512 b).WholeWords (EltTy.packing .bf16) := by
  fin_cases b
  · exact wordsbf16_S2x512x1024_S1x512x1024_0_0_0
  · exact wordsbf16_S2x512x1024_S1x512x1024_1_0_0

/-- Signal the three neighbours' barrier semaphores and wait for three units on one's own. -/
def meet (dy dx dz : Dev nD) (k : Run F) : Run F :=
  .op (.semSignal (dy, .tc) barrier0 1) fun _ => .op (.semSignal (dx, .tc) barrier0 1) fun _ =>
    .op (.semSignal (dz, .tc) barrier0 1) fun _ => .op (.semWait barrier0 3) fun _ => k

/-- Start copying `n` rows of the argument into slot `b`. -/
def startIn (b : Fin 2) (h : Fits n) (o : Fin 2 → ℕ) (hi : Inb n o) (k : Run F) : Run F :=
  .op (.enqueueDma (rowsOf argM n o hi) (.here (slotOf stage h b)) (.dma (inS b)) (View.wordExact_bits rfl)
    ((View.wordExact_bits rfl).reshape _ _) ⟨Or.inl rfl, trivial⟩) fun _ => k

/-- Wait for the copy of slot `b` and store its rows, narrowed, in `own`. -/
def castIn (b : Fin 2) (h : Fits n) (o : Fin 2 → ℕ) (hi : Inb n o) (o' : Fin 2 → ℕ) (hi' : Inb n o')
    (hp : (rectAt n o' hi').PackedRows (EltTy.packing .bf16)) (k : Run F) : Run F :=
  .op (.waitDma2 (inS b) (rowsOf argM n o hi) (slotOf stage h b) (View.wordExact_bits rfl) ((View.wordExact_bits rfl).reshape _ _)) fun _ =>
    .op (.load stage (slotRect h b).toLoadRect (View.loadsAt_vmem h.posSlab)) fun v =>
      .op (.load own (rectAt n o' hi').toLoadRect (View.loadsAt_vmem h.pos)) fun _ =>
        .op (.store own (rectAt n o' hi') (castPay h v) Finset.univ
          (View.stores_vmem h.pos ((Memref.isWhole_whole _).storeExact_slice rfl _ hp) (fun _ => rfl)) (.inl rfl)) fun _ => k

/-- Send `n` rows of `M` to the same rows of device `d`'s `recv`. -/
def sendRows (M : Memref sig .tc .vmem S8192x1024 .bf16) (hM : M.IsWhole) (d : Dev nD) (sS rS : DmaSem sig) (o : Fin 2 → ℕ) (hi : Inb n o)
    (hw : (rectAt n o hi).WholeWords (EltTy.packing .bf16)) (k : Run F) : Run F :=
  .op (.enqueueDma (rowsOf M n o hi) (.remote (Dev.tc d) (rowsOf recv n o hi) (.dma sS)) (.dma rS)
    (hM.wordExact_slice rfl _ hw) ((Memref.isWhole_whole _).wordExact_slice rfl _ hw) ⟨⟨rfl, Or.inl rfl⟩, trivial⟩) fun _ => k

/-- Wait on a send or receive semaphore for the bytes of `n` rows. -/
def waitRows (A B : Memref sig .tc .vmem S8192x1024 .bf16) (hA : A.IsWhole) (hB : B.IsWhole) (sm : DmaSem sig) (o : Fin 2 → ℕ) (hi : Inb n o)
    (hw : (rectAt n o hi).WholeWords (EltTy.packing .bf16)) (k : Run F) : Run F :=
  .op (.waitDma2 sm (rowsOf A n o hi) (rowsOf B n o hi) (hA.wordExact_slice rfl _ hw) (hB.wordExact_slice rfl _ hw)) fun _ => k

/-- Add 512 rows of `own` and `recv` into slot `b` and start copying it to the result. -/
def emit (b : Fin 2) (o : Fin 2 → ℕ) (hi : Inb 512 o) (o' : Fin 2 → ℕ) (hi' : Inb 512 o')
    (hw : (rectAt 512 o' hi').WholeWords (EltTy.packing .bf16)) (k : Run F) : Run F :=
  .op (.load own (rectAt 512 o hi).toLoadRect (View.loadsAt_vmem fits512.pos)) fun x =>
    .op (.load recv (rectAt 512 o hi).toLoadRect (View.loadsAt_vmem fits512.pos)) fun y =>
      .op (.load ostage (slotRect fits512 b).toLoadRect (View.loadsAt_vmem fits512.posSlab)) fun _ =>
        .op (.store ostage (slotRect fits512 b) (sumPay x y) Finset.univ
          (View.stores_vmem fits512.posSlab ((Memref.isWhole_whole _).storeExact_slice rfl _ (slot_packed b)) (fun _ => rfl)) (.inl rfl)) fun _ =>
          .op (.enqueueDma (slotOf ostage fits512 b) (.here (rowsOf outM 512 o' hi')) (.dma (outS b))
            (((Memref.isWhole_whole _).wordExact_slice rfl _ (slot_words b)).reshape _ _) ((Memref.isWhole_whole _).wordExact_slice rfl _ hw)
            ⟨Or.inl rfl, trivial⟩) fun _ => k

/-- Wait for the copy of slot `b` to the result. -/
def waitOut (b : Fin 2) (o : Fin 2 → ℕ) (hi : Inb 512 o) (hw : (rectAt 512 o hi).WholeWords (EltTy.packing .bf16)) (k : Run F) : Run F :=
  .op (.waitDma2 (outS b) (slotOf ostage fits512 b) (rowsOf outM 512 o hi) (((Memref.isWhole_whole _).wordExact_slice rfl _ (slot_words b)).reshape _ _)
    ((Memref.isWhole_whole _).wordExact_slice rfl _ hw)) fun _ => k

end Cert.KernelIdeal.AllReduce
-- ==== Proof.Geometry.lean ====
module

public import proofs.«01_k».proof.Proof.Moves

/-!
# Devices, pieces and blocks

The 8192 rows are cut, on every device, in 18 pieces, one for each send of the kernel and numbered as the sends are:
piece `p` of a device is where the `p`-th send of a neighbour lands. Positions are counted in units of 256 rows.
-/

@[expose] public section

noncomputable section

namespace Cert.KernelIdeal.AllReduce

open Idealize.ShloMosaic Idealize.ShloMosaic.TcCoe
open Idealize.SL Idealize.SL.Sem
open Cert.KernelIdeal Cert.KernelIdeal.Gen

/-! ## Devices -/

/-- The neighbour across direction `k`: 0 is y, 1 is x, 2 is z. -/
def nb (k : Fin 3) (c : Dev nD) : Dev nD :=
  (![![2, 3, 0, 1, 6, 7, 4, 5], ![4, 5, 6, 7, 0, 1, 2, 3], ![1, 0, 3, 2, 5, 4, 7, 6]] : Fin 3 → Fin 8 → Dev nD) k c

theorem nb_nb (k : Fin 3) (c : Dev nD) : nb k (nb k c) = c := by revert k c; decide
/-- Crossing a direction exchanges devices. -/
def across (k : Fin 3) : Dev nD ≃ Dev nD := ⟨nb k, nb k, nb_nb k, nb_nb k⟩

/-! ## Pieces -/

/-- Where the first half of a device's quarter starts. -/
def homeI (c : Dev nD) : ℕ := (![0, 28, 0, 28, 16, 12, 16, 12] : Fin 8 → ℕ) c
/-- Where the second half of a device's quarter starts. -/
def homeJ (c : Dev nD) : ℕ := (![4, 20, 4, 20, 20, 4, 20, 4] : Fin 8 → ℕ) c

/-- Where piece `p` of device `c` starts. -/
def unit (p : Fin 18) (c : Dev nD) : ℕ :=
  (![homeI c, homeI c + 2, homeJ c, homeJ c + 2, homeJ c + 4, homeJ c + 6, homeJ c + 7,
    homeI (nb 1 c), homeI (nb 2 c), homeI (nb 1 c) + 2, homeI (nb 2 c) + 2, homeI (nb 1 (nb 2 c)), homeI (nb 1 (nb 2 c)) + 2,
    homeJ (nb 1 c), homeJ (nb 1 c) + 2, homeJ (nb 1 c) + 4, homeJ (nb 1 c) + 6, homeJ (nb 1 c) + 7] : Fin 18 → ℕ) p
/-- How long piece `p` is. -/
def len (p : Fin 18) : ℕ := (![2, 2, 2, 2, 2, 1, 1, 2, 2, 2, 2, 2, 2, 2, 2, 2, 1, 1] : Fin 18 → ℕ) p

/-- The direction send `s` crosses. -/
def dir (s : Fin 18) : Fin 3 := (![0, 0, 0, 0, 0, 0, 0, 1, 2, 1, 2, 2, 1, 1, 1, 2, 2, 2] : Fin 18 → Fin 3) s
/-- The piece of the sender that send `s` sends: of `own` across y, of `recv` otherwise. -/
def src (s : Fin 18) : Fin 18 := (![0, 1, 2, 3, 4, 5, 6, 0, 0, 1, 1, 7, 10, 2, 3, 4, 5, 6] : Fin 18 → Fin 18) s
/-- The receiver of send `s`. -/
abbrev peer (s : Fin 18) (c : Dev nD) : Dev nD := nb (dir s) c

/-- The device whose argument piece `p` of `c`'s `recv` comes from. -/
def orig (p : Fin 18) (c : Dev nD) : Dev nD :=
  (![nb 0 c, nb 0 c, nb 0 c, nb 0 c, nb 0 c, nb 0 c, nb 0 c, nb 0 (nb 1 c), nb 0 (nb 2 c), nb 0 (nb 1 c), nb 0 (nb 2 c),
    nb 0 (nb 1 (nb 2 c)), nb 0 (nb 2 (nb 1 c)), nb 0 (nb 1 c), nb 0 (nb 1 c), nb 0 (nb 2 c), nb 0 (nb 2 c), nb 0 (nb 2 c)] :
    Fin 18 → Dev nD) p

/-- A send lands where it was sent from. -/
theorem unit_peer (s : Fin 18) (c : Dev nD) : unit s (peer s c) = unit (src s) c := by revert s c; decide
theorem len_src (s : Fin 18) : len (src s) = len s := by revert s; decide
theorem orig_own (s : Fin 18) (c : Dev nD) (h : dir s = 0) : orig s (peer s c) = c := by revert s c; decide
theorem orig_recv (s : Fin 18) (c : Dev nD) (h : dir s ≠ 0) : orig s (peer s c) = orig (src s) c := by revert s c; decide

theorem apart (c : Dev nD) (p q : Fin 18) (h : p ≠ q) : unit p c + len p ≤ unit q c ∨ unit q c + len q ≤ unit p c := by
  revert c p q; decide +kernel
theorem covered (c : Dev nD) (u : Fin 32) : ∃ p : Fin 18, unit p c ≤ u.val ∧ u.val < unit p c + len p := by
  revert c u; decide +kernel

/-- The rows `a` to `a + n`. -/
def rowSet (a n : ℕ) : Finset S8192x1024.Idx := Finset.univ.filter fun i => a ≤ (i 0).val ∧ (i 0).val < a + n

theorem mem_rowSet {a n : ℕ} {i : S8192x1024.Idx} : i ∈ rowSet a n ↔ a ≤ (i 0).val ∧ (i 0).val < a + n := by
  simp only [rowSet, Finset.mem_filter, Finset.mem_univ, true_and]

/-- The rows of piece `p`. -/
def piece (p : Fin 18) (c : Dev nD) : Finset S8192x1024.Idx := rowSet (256 * unit p c) (256 * len p)

theorem piece_disjoint (c : Dev nD) (p q : Fin 18) (h : p ≠ q) : Disjoint (piece p c) (piece q c) := by
  rw [Finset.disjoint_left]
  intro i hi hj
  rw [piece, mem_rowSet] at hi hj
  rcases apart c p q h with h | h <;> omega

theorem pieces_cover (c : Dev nD) : (Finset.univ : Finset (Fin 18)).biUnion (fun p => piece p c) = Finset.univ := by
  refine Finset.eq_univ_of_forall fun i => Finset.mem_biUnion.mpr ?_
  have hi : (i 0).val < 8192 := (i 0).isLt
  obtain ⟨p, h1, h2⟩ := covered c ⟨(i 0).val / 256, by omega⟩
  refine ⟨p, Finset.mem_univ _, ?_⟩
  rw [piece, mem_rowSet]
  simp only at h1 h2
  omega

theorem piece_peer (s : Fin 18) (c : Dev nD) : piece s (peer s c) = piece (src s) c := by
  unfold piece; rw [unit_peer, len_src]

/-! ## Blocks

What a cast or a sum works on: a piece, or one of the two pairs of short pieces that lie side by side. -/

/-- The pieces of a block. -/
def parts (B : Fin 20) : Finset (Fin 18) :=
  (![{0}, {1}, {2}, {3}, {4}, {5}, {6}, {7}, {8}, {9}, {10}, {11}, {12}, {13}, {14}, {15}, {16}, {17}, {5, 6}, {16, 17}] :
    Fin 20 → Finset (Fin 18)) B
/-- The first piece of a block. -/
def head (B : Fin 20) : Fin 18 := (![0, 1, 2, 3, 4, 5, 6, 7, 8, 9, 10, 11, 12, 13, 14, 15, 16, 17, 5, 16] : Fin 20 → Fin 18) B
/-- Whether a block is 512 rows and not 256. -/
def tall (B : Fin 20) : Bool :=
  (![true, true, true, true, true, false, false, true, true, true, true, true, true, true, true, true, false, false, true, true] : Fin 20 → Bool) B
/-- The number of rows of a block. -/
def height (B : Fin 20) : ℕ := match tall B with | true => 512 | false => 256

theorem fits (B : Fin 20) : Fits (height B) := by
  unfold height
  cases tall B
  · exact fits256
  · exact fits512

/-- The offsets of piece `p`. -/
def off (p : Fin 18) (c : Dev nD) : Fin 2 → ℕ := ![256 * unit p c, 0]

theorem off_zero (p : Fin 18) (c : Dev nD) : off p c 0 = 256 * unit p c := rfl
theorem off_one (p : Fin 18) (c : Dev nD) : off p c 1 = 0 := rfl

theorem unit_le (p : Fin 18) (c : Dev nD) : unit p c + 2 ≤ 32 := by revert p c; decide +kernel
theorem height_le (B : Fin 20) : height B ≤ 512 := by revert B; decide
theorem height_dvd (B : Fin 20) : 2 ∣ height B := by revert B; decide

theorem inbOff {n : ℕ} (hn : n ≤ 512) (p : Fin 18) (c : Dev nD) : Inb n (off p c) := by
  intro a
  have := unit_le p c
  fin_cases a
  · show 256 * unit p c + n ≤ 8192; omega
  · exact le_rfl

theorem inbB (B : Fin 20) (c : Dev nD) : Inb (height B) (off (head B) c) := inbOff (height_le B) _ c

theorem packed {n : ℕ} (hn : n ≤ 512) (h2 : 2 ∣ n) (p : Fin 18) (c : Dev nD) :
    (rectAt n (off p c) (inbOff hn p c)).PackedRows (EltTy.packing .bf16) :=
  Or.inr ⟨le_rfl, rfl, Or.inl ⟨(show 2 ∣ 256 * unit p c from Dvd.dvd.mul_right (by decide) _), h2⟩⟩
theorem words {n : ℕ} (hn : n ≤ 512) (h2 : 2 ∣ n) (p : Fin 18) (c : Dev nD) :
    (rectAt n (off p c) (inbOff hn p c)).WholeWords (EltTy.packing .bf16) := Or.inl (packed hn h2 p c)

/-- A block is its pieces. -/
theorem block_eq (B : Fin 20) (c : Dev nD) :
    rowSet (256 * unit (head B) c) (height B) = (parts B).biUnion (fun p => piece p c) := by
  have h5 : unit 6 c = unit 5 c + 1 := by revert c; decide
  have h16 : unit 17 c = unit 16 c + 1 := by revert c; decide
  ext i
  rw [Finset.mem_biUnion]
  simp only [piece, mem_rowSet]
  fin_cases B
  case «18» =>
    show (256 * unit 5 c ≤ _ ∧ _ < 256 * unit 5 c + 512) ↔ ∃ a ∈ ({5, 6} : Finset (Fin 18)), _
    simp only [Finset.mem_insert, Finset.mem_singleton, exists_eq_or_imp, exists_eq_left, h5]
    show _ ↔ (_ ∧ _ < 256 * unit 5 c + 256 * 1) ∨ (_ ∧ _ < 256 * (unit 5 c + 1) + 256 * 1)
    omega
  case «19» =>
    show (256 * unit 16 c ≤ _ ∧ _ < 256 * unit 16 c + 512) ↔ ∃ a ∈ ({16, 17} : Finset (Fin 18)), _
    simp only [Finset.mem_insert, Finset.mem_singleton, exists_eq_or_imp, exists_eq_left, h16]
    show _ ↔ (_ ∧ _ < 256 * unit 16 c + 256 * 1) ∨ (_ ∧ _ < 256 * (unit 16 c + 1) + 256 * 1)
    omega
  all_goals exact ⟨fun h => ⟨_, Finset.mem_singleton_self _, h⟩, fun ⟨_, ha, h⟩ => by cases Finset.mem_singleton.mp ha; exact h⟩

/-- All of a block's rows come from one device. -/
theorem orig_parts (B : Fin 20) (c : Dev nD) (p : Fin 18) (hp : p ∈ parts B) : orig p c = orig (head B) c := by
  revert B c p; decide +kernel

/-! ## Views -/

theorem rectAt_set {n : ℕ} (o : Fin 2 → ℕ) (hi : Inb n o) (h1 : o 1 = 0) : (rectAt n o hi).set = rowSet (o 0) n := by
  ext i
  rw [Rect.mem_set_unit, mem_rowSet]
  constructor
  · intro h; exact h 0
  · intro h a
    fin_cases a
    · exact h
    · have : (i 1).val < 1024 := (i 1).isLt
      show o 1 ≤ (i 1).val ∧ (i 1).val < o 1 + 1024
      omega

/-- The two slots share nothing, -/
theorem slots_disjoint : Disjoint (slotRect fits512 0).set (slotRect fits512 1).set := by
  rw [Finset.disjoint_left]
  intro i hi hj
  rw [Rect.mem_set_unit] at hi hj
  have h1 : (i 0).val < 0 + 1 := (hi 0).2
  have h2 : 1 ≤ (i 0).val := (hj 0).1
  omega
/-- and are the whole buffer. -/
theorem slots_cover : (slotRect fits512 0).set ∪ (slotRect fits512 1).set = Finset.univ := by
  refine Finset.eq_univ_of_forall fun i => Finset.mem_union.mpr ?_
  rw [Rect.mem_set_unit, Rect.mem_set_unit]
  have h0 : (i 0).val < 2 := (i 0).isLt
  have h1 : (i 1).val < 512 := (i 1).isLt
  have h2 : (i 2).val < 1024 := (i 2).isLt
  by_cases h : (i 0).val = 0
  · left; intro a
    fin_cases a
    · show 0 ≤ (i 0).val ∧ (i 0).val < 0 + 1; omega
    · show 0 ≤ (i 1).val ∧ (i 1).val < 0 + 512; omega
    · show 0 ≤ (i 2).val ∧ (i 2).val < 0 + 1024; omega
  · right; intro a
    fin_cases a
    · show 1 ≤ (i 0).val ∧ (i 0).val < 1 + 1; omega
    · show 0 ≤ (i 1).val ∧ (i 1).val < 0 + 512; omega
    · show 0 ≤ (i 2).val ∧ (i 2).val < 0 + 1024; omega
/-- A shorter slab lies in its slot. -/
theorem slot_sub {n : ℕ} (h : Fits n) (b : Fin 2) : (slotRect h b).set ⊆ (slotRect fits512 b).set := by
  intro i hi
  rw [Rect.mem_set_unit] at hi ⊢
  have := h.le
  intro a
  have ha := hi a
  fin_cases a
  · exact ha
  · have : (i 1).val < 0 + n := ha.2
    show 0 ≤ (i 1).val ∧ (i 1).val < 0 + 512; omega
  · exact ha

end Cert.KernelIdeal.AllReduce
-- ==== Proof.Contents.lean ====
module

public import proofs.«01_k».proof.Proof.Geometry
public import Idealize.ShloMosaic.Lib.Pipeline.Value

/-!
# What the moves leave in the buffers

One equation for each move that writes: what a cast leaves in `own`, what a send leaves in the receiver's `recv`, what
a sum leaves in the result, each on the rows it works on.
-/

@[expose] public section

noncomputable section

namespace Cert.KernelIdeal.AllReduce

open Idealize.ShloMosaic Idealize.ShloMosaic.TcCoe
open Idealize.SL Idealize.SL.Sem
open Cert.KernelIdeal Cert.KernelIdeal.Gen

variable {F : FTy → Type} [FloatOps F]

/-- An array of f32, all rows, -/
abbrev Wide (F : FTy → Type) [FloatOps F] := FVec F S8192x1024 .f32
/-- and one of bf16. -/
abbrev Narrow (F : FTy → Type) [FloatOps F] := FVec F S8192x1024 .bf16

/-- An array of f32, narrowed. -/
def narrow (A : Wide F) : Narrow F := truncf .bf16 A bitsLt_bf16_f32

variable {n : ℕ}

omit [FloatOps F] in
/-- Through any view, writing what the view reads of `g` leaves `g` on the view's elements. -/
theorem write_read {sp : Space} {s : Shape} {e : EltTy} (v : View sig .tc sp s e) (f g : v.ty.Contents (Elt F)) (w : s.Idx → Elt F e)
    (hw : w = v.read (Elt F) g) : ∀ i ∈ v.set, v.write (Elt F) f w Finset.univ i = g i := by
  intro i hi
  obtain ⟨x, -, rfl⟩ := Finset.mem_map.mp hi
  rw [View.write_emb_of_mem (v := v) f w (Finset.mem_univ x), hw, View.read_apply, cast_cast, cast_eq]

/-- What a cast stores is what the fetch wrote in the slot, narrowed. -/
theorem castPay_fetched (h : Fits n) (b : Fin 2) (fd : stage.view.ty.Contents (Elt F)) (w : FVec F (Rows n) .f32) :
    castPay h (stage.view.readAt (Elt F) (slotRect h b).toLoadRect ((slotOf stage h b).view.write (Elt F) fd w Finset.univ))
      = truncf .bf16 w bitsLt_bf16_f32 := by
  unfold castPay
  rw [shapeCast_self, ← Memref.read_squeeze_slice stage (slotRect h b) (fun _ => rfl) h.squeeze h.toRows]
  rw [View.read_write_univ]

/-- After a cast `own` holds the argument, narrowed, on the rows cast. -/
theorem cast_leaves (h : Fits n) (b : Fin 2) (o : Fin 2 → ℕ) (hi : Inb n o) (A : Wide F) (fd : stage.view.ty.Contents (Elt F)) (f : Narrow F) :
    ∀ i ∈ (rowsOf own n o hi).view.set,
      (own.access (rectAt n o hi)).write (Elt F) f
        (castPay h (stage.view.readAt (Elt F) (slotRect h b).toLoadRect
          ((slotOf stage h b).view.write (Elt F) fd ((rowsOf argM n o hi).view.read (Elt F) A) Finset.univ))) Finset.univ i = narrow A i :=
  write_read (own.access (rectAt n o hi)) f (narrow A) _ (by rw [castPay_fetched]; rfl)

/-- What leaves a slot is the sum of what was read of the two buffers. -/
theorem sumPay_left (b : Fin 2) (f : ostage.view.ty.Contents (Elt F)) (x y : FVec F (Rows 512) .bf16) :
    (slotOf ostage fits512 b).view.read (Elt F) ((ostage.access (slotRect fits512 b)).write (Elt F) f (sumPay x y) Finset.univ) = addf x y := by
  rw [Memref.read_squeeze_slice ostage (slotRect fits512 b) (fun _ => rfl) fits512.squeeze fits512.toRows]
  rw [View.readAt_rect, View.read_write_univ]
  unfold sumPay
  exact shapeCast_shapeCast _ _ _

/-- After an emission is done the result holds the sum on the rows emitted. -/
theorem emit_leaves (b : Fin 2) (o : Fin 2 → ℕ) (hi : Inb 512 o) (f : ostage.view.ty.Contents (Elt F)) (g X Y : Narrow F) :
    ∀ i ∈ (rowsOf outM 512 o hi).view.set,
      (rowsOf outM 512 o hi).view.write (Elt F) g
        ((slotOf ostage fits512 b).view.read (Elt F) ((ostage.access (slotRect fits512 b)).write (Elt F) f
          (sumPay (own.view.readAt (Elt F) (rectAt 512 o hi).toLoadRect X) (recv.view.readAt (Elt F) (rectAt 512 o hi).toLoadRect Y)) Finset.univ))
        Finset.univ i = addf X Y i :=
  write_read (rowsOf outM 512 o hi).view g (addf X Y) _ (by rw [sumPay_left]; rfl)

end Cert.KernelIdeal.AllReduce
-- ==== Proof.Text.lean ====
module

public import proofs.«01_k».proof.Proof.Moves

/-!
# The body as a list of moves

The printed body, statement for statement, is the moves of `Moves.lean` in the order below.
-/

@[expose] public section

noncomputable section

namespace Cert.KernelIdeal.AllReduce

open Idealize.ShloMosaic Idealize.ShloMosaic.TcCoe
open Idealize.SL Idealize.SL.Sem
open Cert.KernelIdeal Cert.KernelIdeal.Gen

variable {F : FTy → Type} [FloatOps F]

/-- Fetch, cast and send the seven blocks that cross y. -/
def phase1 (c : Dev nD) (k : Run F) : Run F :=
  startIn 0 fits512 (k0_off1 c) (k0_off1_inb c) <|
  startIn 1 fits512 (k0_off2 c) (k0_off2_inb c) <|
  castIn 0 fits512 (k0_off1 c) (k0_off1_inb c) (k0_off3 c) (k0_off3_inb c) (k0_off3_packedbf16 c) <|
  startIn 0 fits512 (k0_off4 c) (k0_off4_inb c) <|
  sendRows (n := 512) own (Memref.isWhole_whole _) ⟨k0_dev4 c, k0_dev4_lt c⟩ (sy 0) (ry 0) (k0_off1 c) (k0_off1_inb c) (k0_off1_wordsbf16 c) <|
  castIn 1 fits512 (k0_off2 c) (k0_off2_inb c) (k0_off5 c) (k0_off5_inb c) (k0_off5_packedbf16 c) <|
  startIn 1 fits512 (k0_off6 c 512#32) (k0_off6_inb c 0) <|
  sendRows (n := 512) own (Memref.isWhole_whole _) ⟨k0_dev5 c, k0_dev5_lt c⟩ (sy 1) (ry 1) (k0_off2 c) (k0_off2_inb c) (k0_off2_wordsbf16 c) <|
  castIn 0 fits512 (k0_off4 c) (k0_off4_inb c) (k0_off7 c) (k0_off7_inb c) (k0_off7_packedbf16 c) <|
  startIn 0 fits512 (k0_off6 c 1024#32) (k0_off6_inb c 1) <|
  sendRows (n := 512) own (Memref.isWhole_whole _) ⟨k0_dev6 c, k0_dev6_lt c⟩ (sy 2) (ry 2) (k0_off4 c) (k0_off4_inb c) (k0_off4_wordsbf16 c) <|
  castIn 1 fits512 (k0_off6 c 512#32) (k0_off6_inb c 0) (k0_off8 c 512#32) (k0_off8_inb c 0) (k0_off8_packedbf16 c 0) <|
  startIn 1 fits256 (k0_off9 c 1536#32) (k0_off9_inb c 0) <|
  sendRows (n := 512) own (Memref.isWhole_whole _) ⟨k0_dev7 c, k0_dev7_lt c⟩ (sy 3) (ry 3) (k0_off6 c 512#32) (k0_off6_inb c 0) (k0_off6_wordsbf16 c 0) <|
  castIn 0 fits512 (k0_off6 c 1024#32) (k0_off6_inb c 1) (k0_off8 c 1024#32) (k0_off8_inb c 1) (k0_off8_packedbf16 c 1) <|
  startIn 0 fits256 (k0_off9 c 1792#32) (k0_off9_inb c 1) <|
  sendRows (n := 512) own (Memref.isWhole_whole _) ⟨k0_dev8 c, k0_dev8_lt c⟩ (sy 4) (ry 4) (k0_off6 c 1024#32) (k0_off6_inb c 1) (k0_off6_wordsbf16 c 1) <|
  castIn 1 fits256 (k0_off9 c 1536#32) (k0_off9_inb c 0) (k0_off10 c 1536#32) (k0_off10_inb c 0) (k0_off10_packedbf16 c 0) <|
  startIn 1 fits512 (k0_off11 c) (k0_off11_inb c) <|
  sendRows (n := 256) own (Memref.isWhole_whole _) ⟨k0_dev9 c, k0_dev9_lt c⟩ (sy 5) (ry 5) (k0_off9 c 1536#32) (k0_off9_inb c 0) (k0_off9_wordsbf16 c 0) <|
  castIn 0 fits256 (k0_off9 c 1792#32) (k0_off9_inb c 1) (k0_off10 c 1792#32) (k0_off10_inb c 1) (k0_off10_packedbf16 c 1) <|
  startIn 0 fits512 (k0_off12 c) (k0_off12_inb c) <|
  sendRows (n := 256) own (Memref.isWhole_whole _) ⟨k0_dev10 c, k0_dev10_lt c⟩ (sy 6) (ry 6) (k0_off9 c 1792#32) (k0_off9_inb c 1) (k0_off9_wordsbf16 c 1) <|
  k

/-- The first blocks received: forward them, fetch the blocks of the neighbours' share, emit. -/
def phase2 (c : Dev nD) (k : Run F) : Run F :=
  waitRows (n := 512) own recv (Memref.isWhole_whole _) (Memref.isWhole_whole _) (ry 0) (k0_off1 c) (k0_off1_inb c) (k0_off1_wordsbf16 c) <|
  sendRows (n := 512) recv (Memref.isWhole_whole _) ⟨k0_dev11 c, k0_dev11_lt c⟩ (sx 0) (rx 0) (k0_off1 c) (k0_off1_inb c) (k0_off1_wordsbf16 c) <|
  sendRows (n := 512) recv (Memref.isWhole_whole _) ⟨k0_dev12 c, k0_dev12_lt c⟩ (sz 0) (rz 0) (k0_off1 c) (k0_off1_inb c) (k0_off1_wordsbf16 c) <|
  castIn 1 fits512 (k0_off11 c) (k0_off11_inb c) (k0_off13 c) (k0_off13_inb c) (k0_off13_packedbf16 c) <|
  startIn 1 fits512 (k0_off14 c) (k0_off14_inb c) <|
  emit 0 (k0_off3 c) (k0_off3_inb c) (k0_off1 c) (k0_off1_inb c) (k0_off1_wordsbf16 c) <|
  waitRows (n := 512) own recv (Memref.isWhole_whole _) (Memref.isWhole_whole _) (ry 1) (k0_off2 c) (k0_off2_inb c) (k0_off2_wordsbf16 c) <|
  sendRows (n := 512) recv (Memref.isWhole_whole _) ⟨k0_dev13 c, k0_dev13_lt c⟩ (sx 1) (rx 1) (k0_off2 c) (k0_off2_inb c) (k0_off2_wordsbf16 c) <|
  sendRows (n := 512) recv (Memref.isWhole_whole _) ⟨k0_dev14 c, k0_dev14_lt c⟩ (sz 1) (rz 1) (k0_off2 c) (k0_off2_inb c) (k0_off2_wordsbf16 c) <|
  castIn 0 fits512 (k0_off12 c) (k0_off12_inb c) (k0_off15 c) (k0_off15_inb c) (k0_off15_packedbf16 c) <|
  startIn 0 fits512 (k0_off16 c) (k0_off16_inb c) <|
  emit 1 (k0_off5 c) (k0_off5_inb c) (k0_off2 c) (k0_off2_inb c) (k0_off2_wordsbf16 c) <|
  waitRows (n := 512) recv recv (Memref.isWhole_whole _) (Memref.isWhole_whole _) (rx 0) (k0_off11 c) (k0_off11_inb c) (k0_off11_wordsbf16 c) <|
  sendRows (n := 512) recv (Memref.isWhole_whole _) ⟨k0_dev15 c, k0_dev15_lt c⟩ (sz 2) (rz 2) (k0_off11 c) (k0_off11_inb c) (k0_off11_wordsbf16 c) <|
  castIn 1 fits512 (k0_off14 c) (k0_off14_inb c) (k0_off17 c) (k0_off17_inb c) (k0_off17_packedbf16 c) <|
  startIn 1 fits512 (k0_off18 c) (k0_off18_inb c) <|
  waitOut 0 (k0_off1 c) (k0_off1_inb c) (k0_off1_wordsbf16 c) <|
  emit 0 (k0_off13 c) (k0_off13_inb c) (k0_off11 c) (k0_off11_inb c) (k0_off11_wordsbf16 c) <|
  waitRows (n := 512) recv recv (Memref.isWhole_whole _) (Memref.isWhole_whole _) (rz 0) (k0_off14 c) (k0_off14_inb c) (k0_off14_wordsbf16 c) <|
  castIn 0 fits512 (k0_off16 c) (k0_off16_inb c) (k0_off19 c) (k0_off19_inb c) (k0_off19_packedbf16 c) <|
  startIn 0 fits512 (k0_off20 c) (k0_off20_inb c) <|
  waitOut 1 (k0_off2 c) (k0_off2_inb c) (k0_off2_wordsbf16 c) <|
  emit 1 (k0_off17 c) (k0_off17_inb c) (k0_off14 c) (k0_off14_inb c) (k0_off14_wordsbf16 c) <|
  waitRows (n := 512) recv recv (Memref.isWhole_whole _) (Memref.isWhole_whole _) (rz 1) (k0_off16 c) (k0_off16_inb c) (k0_off16_wordsbf16 c) <|
  sendRows (n := 512) recv (Memref.isWhole_whole _) ⟨k0_dev16 c, k0_dev16_lt c⟩ (sx 4) (rx 4) (k0_off16 c) (k0_off16_inb c) (k0_off16_wordsbf16 c) <|
  castIn 1 fits512 (k0_off18 c) (k0_off18_inb c) (k0_off21 c) (k0_off21_inb c) (k0_off21_packedbf16 c) <|
  startIn 1 fits512 (k0_off22 c) (k0_off22_inb c) <|
  waitOut 0 (k0_off11 c) (k0_off11_inb c) (k0_off11_wordsbf16 c) <|
  k

/-- Forwarding goes on while results are emitted. -/
def phase3 (c : Dev nD) (k : Run F) : Run F :=
  emit 0 (k0_off19 c) (k0_off19_inb c) (k0_off16 c) (k0_off16_inb c) (k0_off16_wordsbf16 c) <|
  waitRows (n := 512) own recv (Memref.isWhole_whole _) (Memref.isWhole_whole _) (ry 2) (k0_off4 c) (k0_off4_inb c) (k0_off4_wordsbf16 c) <|
  sendRows (n := 512) recv (Memref.isWhole_whole _) ⟨k0_dev17 c, k0_dev17_lt c⟩ (sx 2) (rx 2) (k0_off4 c) (k0_off4_inb c) (k0_off4_wordsbf16 c) <|
  castIn 0 fits512 (k0_off20 c) (k0_off20_inb c) (k0_off23 c) (k0_off23_inb c) (k0_off23_packedbf16 c) <|
  startIn 0 fits512 (k0_off24 c 512#32) (k0_off24_inb c 0) <|
  waitOut 1 (k0_off14 c) (k0_off14_inb c) (k0_off14_wordsbf16 c) <|
  emit 1 (k0_off7 c) (k0_off7_inb c) (k0_off4 c) (k0_off4_inb c) (k0_off4_wordsbf16 c) <|
  waitRows (n := 512) recv recv (Memref.isWhole_whole _) (Memref.isWhole_whole _) (rx 1) (k0_off12 c) (k0_off12_inb c) (k0_off12_wordsbf16 c) <|
  castIn 1 fits512 (k0_off22 c) (k0_off22_inb c) (k0_off25 c) (k0_off25_inb c) (k0_off25_packedbf16 c) <|
  startIn 1 fits512 (k0_off24 c 1024#32) (k0_off24_inb c 1) <|
  waitOut 0 (k0_off16 c) (k0_off16_inb c) (k0_off16_wordsbf16 c) <|
  emit 0 (k0_off15 c) (k0_off15_inb c) (k0_off12 c) (k0_off12_inb c) (k0_off12_wordsbf16 c) <|
  waitRows (n := 512) own recv (Memref.isWhole_whole _) (Memref.isWhole_whole _) (ry 3) (k0_off6 c 512#32) (k0_off6_inb c 0) (k0_off6_wordsbf16 c 0) <|
  sendRows (n := 512) recv (Memref.isWhole_whole _) ⟨k0_dev18 c, k0_dev18_lt c⟩ (sx 3) (rx 3) (k0_off6 c 512#32) (k0_off6_inb c 0) (k0_off6_wordsbf16 c 0) <|
  castIn 0 fits512 (k0_off24 c 512#32) (k0_off24_inb c 0) (k0_off26 c 512#32) (k0_off26_inb c 0) (k0_off26_packedbf16 c 0) <|
  startIn 0 fits512 (k0_off24 c 1536#32) (k0_off24_inb c 2) <|
  waitOut 1 (k0_off4 c) (k0_off4_inb c) (k0_off4_wordsbf16 c) <|
  emit 1 (k0_off8 c 512#32) (k0_off8_inb c 0) (k0_off6 c 512#32) (k0_off6_inb c 0) (k0_off6_wordsbf16 c 0) <|
  waitRows (n := 512) own recv (Memref.isWhole_whole _) (Memref.isWhole_whole _) (ry 4) (k0_off6 c 1024#32) (k0_off6_inb c 1) (k0_off6_wordsbf16 c 1) <|
  sendRows (n := 512) recv (Memref.isWhole_whole _) ⟨k0_dev19 c, k0_dev19_lt c⟩ (sz 3) (rz 3) (k0_off6 c 1024#32) (k0_off6_inb c 1) (k0_off6_wordsbf16 c 1) <|
  castIn 1 fits512 (k0_off24 c 1024#32) (k0_off24_inb c 1) (k0_off26 c 1024#32) (k0_off26_inb c 1) (k0_off26_packedbf16 c 1) <|
  waitOut 0 (k0_off12 c) (k0_off12_inb c) (k0_off12_wordsbf16 c) <|
  emit 0 (k0_off8 c 1024#32) (k0_off8_inb c 1) (k0_off6 c 1024#32) (k0_off6_inb c 1) (k0_off6_wordsbf16 c 1) <|
  waitRows (n := 256) own recv (Memref.isWhole_whole _) (Memref.isWhole_whole _) (ry 5) (k0_off9 c 1536#32) (k0_off9_inb c 0) (k0_off9_wordsbf16 c 0) <|
  k

/-- The last blocks received and emitted. -/
def phase4 (c : Dev nD) (k : Run F) : Run F :=
  sendRows (n := 256) recv (Memref.isWhole_whole _) ⟨k0_dev20 c, k0_dev20_lt c⟩ (sz 4) (rz 4) (k0_off9 c 1536#32) (k0_off9_inb c 0) (k0_off9_wordsbf16 c 0) <|
  castIn 0 fits512 (k0_off24 c 1536#32) (k0_off24_inb c 2) (k0_off26 c 1536#32) (k0_off26_inb c 2) (k0_off26_packedbf16 c 2) <|
  waitRows (n := 256) own recv (Memref.isWhole_whole _) (Memref.isWhole_whole _) (ry 6) (k0_off9 c 1792#32) (k0_off9_inb c 1) (k0_off9_wordsbf16 c 1) <|
  sendRows (n := 256) recv (Memref.isWhole_whole _) ⟨k0_dev21 c, k0_dev21_lt c⟩ (sz 5) (rz 5) (k0_off9 c 1792#32) (k0_off9_inb c 1) (k0_off9_wordsbf16 c 1) <|
  waitOut 1 (k0_off6 c 512#32) (k0_off6_inb c 0) (k0_off6_wordsbf16 c 0) <|
  emit 1 (k0_off8 c 1536#32) (k0_off8_inb c 2) (k0_off6 c 1536#32) (k0_off6_inb c 2) (k0_off6_wordsbf16 c 2) <|
  waitRows (n := 512) recv recv (Memref.isWhole_whole _) (Memref.isWhole_whole _) (rx 2) (k0_off22 c) (k0_off22_inb c) (k0_off22_wordsbf16 c) <|
  waitOut 0 (k0_off6 c 1024#32) (k0_off6_inb c 1) (k0_off6_wordsbf16 c 1) <|
  emit 0 (k0_off25 c) (k0_off25_inb c) (k0_off22 c) (k0_off22_inb c) (k0_off22_wordsbf16 c) <|
  waitRows (n := 512) recv recv (Memref.isWhole_whole _) (Memref.isWhole_whole _) (rx 3) (k0_off24 c 512#32) (k0_off24_inb c 0) (k0_off24_wordsbf16 c 0) <|
  waitOut 1 (k0_off6 c 1536#32) (k0_off6_inb c 2) (k0_off6_wordsbf16 c 2) <|
  emit 1 (k0_off26 c 512#32) (k0_off26_inb c 0) (k0_off24 c 512#32) (k0_off24_inb c 0) (k0_off24_wordsbf16 c 0) <|
  waitRows (n := 512) recv recv (Memref.isWhole_whole _) (Memref.isWhole_whole _) (rz 3) (k0_off24 c 1024#32) (k0_off24_inb c 1) (k0_off24_wordsbf16 c 1) <|
  waitOut 0 (k0_off22 c) (k0_off22_inb c) (k0_off22_wordsbf16 c) <|
  emit 0 (k0_off26 c 1024#32) (k0_off26_inb c 1) (k0_off24 c 1024#32) (k0_off24_inb c 1) (k0_off24_wordsbf16 c 1) <|
  waitRows (n := 256) recv recv (Memref.isWhole_whole _) (Memref.isWhole_whole _) (rz 4) (k0_off27 c 1536#32) (k0_off27_inb c 0) (k0_off27_wordsbf16 c 0) <|
  waitRows (n := 256) recv recv (Memref.isWhole_whole _) (Memref.isWhole_whole _) (rz 5) (k0_off27 c 1792#32) (k0_off27_inb c 1) (k0_off27_wordsbf16 c 1) <|
  waitOut 1 (k0_off24 c 512#32) (k0_off24_inb c 0) (k0_off24_wordsbf16 c 0) <|
  emit 1 (k0_off26 c 1536#32) (k0_off26_inb c 2) (k0_off24 c 1536#32) (k0_off24_inb c 2) (k0_off24_wordsbf16 c 2) <|
  waitRows (n := 512) recv recv (Memref.isWhole_whole _) (Memref.isWhole_whole _) (rx 4) (k0_off20 c) (k0_off20_inb c) (k0_off20_wordsbf16 c) <|
  waitOut 0 (k0_off24 c 1024#32) (k0_off24_inb c 1) (k0_off24_wordsbf16 c 1) <|
  emit 0 (k0_off23 c) (k0_off23_inb c) (k0_off20 c) (k0_off20_inb c) (k0_off20_wordsbf16 c) <|
  waitRows (n := 512) recv recv (Memref.isWhole_whole _) (Memref.isWhole_whole _) (rz 2) (k0_off18 c) (k0_off18_inb c) (k0_off18_wordsbf16 c) <|
  waitOut 1 (k0_off24 c 1536#32) (k0_off24_inb c 2) (k0_off24_wordsbf16 c 2) <|
  emit 1 (k0_off21 c) (k0_off21_inb c) (k0_off18 c) (k0_off18_inb c) (k0_off18_wordsbf16 c) <|
  k

/-- Wait for every send to be done and for the last two copies. -/
def phase5 (c : Dev nD) (k : Run F) : Run F :=
  waitRows (n := 512) recv own (Memref.isWhole_whole _) (Memref.isWhole_whole _) (sy 0) (k0_off1 c) (k0_off1_inb c) (k0_off1_wordsbf16 c) <|
  waitRows (n := 512) recv own (Memref.isWhole_whole _) (Memref.isWhole_whole _) (sy 1) (k0_off2 c) (k0_off2_inb c) (k0_off2_wordsbf16 c) <|
  waitRows (n := 512) recv own (Memref.isWhole_whole _) (Memref.isWhole_whole _) (sy 2) (k0_off4 c) (k0_off4_inb c) (k0_off4_wordsbf16 c) <|
  waitRows (n := 512) recv own (Memref.isWhole_whole _) (Memref.isWhole_whole _) (sy 3) (k0_off6 c 512#32) (k0_off6_inb c 0) (k0_off6_wordsbf16 c 0) <|
  waitRows (n := 512) recv own (Memref.isWhole_whole _) (Memref.isWhole_whole _) (sy 4) (k0_off6 c 1024#32) (k0_off6_inb c 1) (k0_off6_wordsbf16 c 1) <|
  waitRows (n := 256) recv own (Memref.isWhole_whole _) (Memref.isWhole_whole _) (sy 5) (k0_off9 c 1536#32) (k0_off9_inb c 0) (k0_off9_wordsbf16 c 0) <|
  waitRows (n := 256) recv own (Memref.isWhole_whole _) (Memref.isWhole_whole _) (sy 6) (k0_off9 c 1792#32) (k0_off9_inb c 1) (k0_off9_wordsbf16 c 1) <|
  waitRows (n := 512) recv recv (Memref.isWhole_whole _) (Memref.isWhole_whole _) (sx 0) (k0_off1 c) (k0_off1_inb c) (k0_off1_wordsbf16 c) <|
  waitRows (n := 512) recv recv (Memref.isWhole_whole _) (Memref.isWhole_whole _) (sx 1) (k0_off2 c) (k0_off2_inb c) (k0_off2_wordsbf16 c) <|
  waitRows (n := 512) recv recv (Memref.isWhole_whole _) (Memref.isWhole_whole _) (sx 2) (k0_off4 c) (k0_off4_inb c) (k0_off4_wordsbf16 c) <|
  waitRows (n := 512) recv recv (Memref.isWhole_whole _) (Memref.isWhole_whole _) (sx 3) (k0_off6 c 512#32) (k0_off6_inb c 0) (k0_off6_wordsbf16 c 0) <|
  waitRows (n := 512) recv recv (Memref.isWhole_whole _) (Memref.isWhole_whole _) (sx 4) (k0_off16 c) (k0_off16_inb c) (k0_off16_wordsbf16 c) <|
  waitRows (n := 512) recv recv (Memref.isWhole_whole _) (Memref.isWhole_whole _) (sz 0) (k0_off1 c) (k0_off1_inb c) (k0_off1_wordsbf16 c) <|
  waitRows (n := 512) recv recv (Memref.isWhole_whole _) (Memref.isWhole_whole _) (sz 1) (k0_off2 c) (k0_off2_inb c) (k0_off2_wordsbf16 c) <|
  waitRows (n := 512) recv recv (Memref.isWhole_whole _) (Memref.isWhole_whole _) (sz 2) (k0_off11 c) (k0_off11_inb c) (k0_off11_wordsbf16 c) <|
  waitRows (n := 512) recv recv (Memref.isWhole_whole _) (Memref.isWhole_whole _) (sz 3) (k0_off6 c 1024#32) (k0_off6_inb c 1) (k0_off6_wordsbf16 c 1) <|
  waitRows (n := 256) recv recv (Memref.isWhole_whole _) (Memref.isWhole_whole _) (sz 4) (k0_off9 c 1536#32) (k0_off9_inb c 0) (k0_off9_wordsbf16 c 0) <|
  waitRows (n := 256) recv recv (Memref.isWhole_whole _) (Memref.isWhole_whole _) (sz 5) (k0_off9 c 1792#32) (k0_off9_inb c 1) (k0_off9_wordsbf16 c 1) <|
  waitOut 0 (k0_off20 c) (k0_off20_inb c) (k0_off20_wordsbf16 c) <|
  waitOut 1 (k0_off18 c) (k0_off18_inb c) (k0_off18_wordsbf16 c) <|
  k

/-- The whole body on device `c`. -/
def text (c : Dev nD) : Run F :=
  meet ⟨k0_dev1 c, k0_dev1_lt c⟩ ⟨k0_dev2 c, k0_dev2_lt c⟩ ⟨k0_dev3 c, k0_dev3_lt c⟩ <|
  phase1 c <| phase2 c <| phase3 c <| phase4 c <| phase5 c <| .ret ⟨⟩

set_option maxRecDepth 65536 in
set_option maxHeartbeats 4000000 in
/-- The printed body reads its device and runs the moves. -/
theorem body_eq_text (t : Fin cfg0.N) : bodyAt0 (F := F) t = .op .deviceId fun c => text c := rfl

end Cert.KernelIdeal.AllReduce
-- ==== Proof.Plan.lean ====
module

public import proofs.«01_k».proof.Proof.Geometry
public import proofs.«01_k».proof.Proof.Text

/-!
# The body as a plan

The moves of the body named by the block, the slot or the send they work on, the same list on every device. The body
is the plan carried out: the printed offsets and devices are those of the pieces and the neighbours.
-/

@[expose] public section

noncomputable section

namespace Cert.KernelIdeal.AllReduce

open Idealize.ShloMosaic Idealize.ShloMosaic.TcCoe
open Idealize.SL Idealize.SL.Sem
open Cert.KernelIdeal Cert.KernelIdeal.Gen

variable {F : FTy → Type} [FloatOps F]

/-- A move: start or finish fetching a block into a slot, make a send, wait for a send to land or to be done, start or
    finish copying a block of the result out of a slot. -/
inductive Move
  | start (b : Fin 2) (B : Fin 20)
  | cast (b : Fin 2) (B : Fin 20)
  | send (s : Fin 18)
  | got (s : Fin 18)
  | emit (b : Fin 2) (B : Fin 20)
  | out (b : Fin 2) (B : Fin 20)
  | back (s : Fin 18)

/-- The semaphore send `s` signals when it is done, -/
def sendSem (s : Fin 18) : DmaSem sig :=
  (![4, 5, 6, 7, 8, 9, 10, 18, 28, 19, 29, 30, 22, 20, 21, 31, 32, 33] : Fin 18 → Fin 40) s
/-- and the one it signals on its receiver. -/
def recvSem (s : Fin 18) : DmaSem sig :=
  (![11, 12, 13, 14, 15, 16, 17, 23, 34, 24, 35, 36, 27, 25, 26, 37, 38, 39] : Fin 18 → Fin 40) s

/-- The buffer send `s` sends from: `own` across y, `recv` otherwise. -/
abbrev sent (s : Fin 18) : Memref sig .tc .vmem S8192x1024 .bf16 := match dir s with | 0 => own | _ => recv
theorem sent_whole (s : Fin 18) : (sent s).IsWhole := by
  unfold sent
  split
  · exact Memref.isWhole_whole _
  · exact Memref.isWhole_whole _

/-- A piece as a block. -/
abbrev one (p : Fin 18) : Fin 20 := p.castLE (by decide)
theorem head_one (p : Fin 18) : head (one p) = p := by revert p; decide

/-- The rows of a send. -/
abbrev tallOf (s : Fin 18) : ℕ := height (one s)
theorem tallOf_le (s : Fin 18) : tallOf s ≤ 512 := height_le _
theorem tallOf_dvd (s : Fin 18) : 2 ∣ tallOf s := height_dvd _
theorem tallOf_eq (s : Fin 18) : tallOf s = 256 * len s := by revert s; decide

/-- A move on device `c`. -/
def Move.run (c : Dev nD) : Move → Run F → Run F
  | .start b B, k => startIn b (fits B) (off (head B) c) (inbB B c) k
  | .cast b B, k => castIn b (fits B) (off (head B) c) (inbB B c) (off (head B) c) (inbB B c) (packed (height_le B) (height_dvd B) _ c) k
  | .send s, k => sendRows (n := tallOf s) (sent s) (sent_whole s) (peer s c) (sendSem s) (recvSem s) (off (src s) c) (inbOff (tallOf_le s) _ c)
      (words (tallOf_le s) (tallOf_dvd s) _ c) k
  | .got s, k => waitRows (n := tallOf s) (sent s) recv (sent_whole s) (Memref.isWhole_whole _) (recvSem s) (off s c) (inbOff (tallOf_le s) _ c)
      (words (tallOf_le s) (tallOf_dvd s) _ c) k
  | .emit b B, k => AllReduce.emit b (off (head B) c) (inbOff le_rfl _ c) (off (head B) c) (inbOff le_rfl _ c) (words le_rfl (by decide) _ c) k
  | .out b B, k => waitOut b (off (head B) c) (inbOff le_rfl _ c) (words le_rfl (by decide) _ c) k
  | .back s, k => waitRows (n := tallOf s) recv (sent s) (Memref.isWhole_whole _) (sent_whole s) (sendSem s) (off (src s) c) (inbOff (tallOf_le s) _ c)
      (words (tallOf_le s) (tallOf_dvd s) _ c) k

/-- A list of moves on device `c`, and then `k`. -/
def carry (c : Dev nD) (l : List Move) (k : Run F) : Run F := l.foldr (fun mv k => mv.run c k) k

def plan1 : List Move :=
  [.start 0 0, .start 1 1, .cast 0 0, .start 0 2, .send 0, .cast 1 1, .start 1 3, .send 1, .cast 0 2, .start 0 4, .send 2,
   .cast 1 3, .start 1 5, .send 3, .cast 0 4, .start 0 6, .send 4, .cast 1 5, .start 1 7, .send 5, .cast 0 6, .start 0 9, .send 6]
def plan2 : List Move :=
  [.got 0, .send 7, .send 8, .cast 1 7, .start 1 8, .emit 0 0,
   .got 1, .send 9, .send 10, .cast 0 9, .start 0 10, .emit 1 1,
   .got 7, .send 11, .cast 1 8, .start 1 11, .out 0 0, .emit 0 7,
   .got 8, .cast 0 10, .start 0 12, .out 1 1, .emit 1 8,
   .got 10, .send 12, .cast 1 11, .start 1 13, .out 0 7]
def plan3 : List Move :=
  [.emit 0 10, .got 2, .send 13, .cast 0 12, .start 0 14, .out 1 8, .emit 1 2,
   .got 9, .cast 1 13, .start 1 15, .out 0 10, .emit 0 9,
   .got 3, .send 14, .cast 0 14, .start 0 19, .out 1 2, .emit 1 3,
   .got 4, .send 15, .cast 1 15, .out 0 9, .emit 0 4, .got 5]
def plan4 : List Move :=
  [.send 16, .cast 0 19, .got 6, .send 17, .out 1 3, .emit 1 18,
   .got 13, .out 0 4, .emit 0 13, .got 14, .out 1 18, .emit 1 14,
   .got 15, .out 0 13, .emit 0 15, .got 16, .got 17, .out 1 14, .emit 1 19,
   .got 12, .out 0 15, .emit 0 12, .got 11, .out 1 19, .emit 1 11]
def plan5 : List Move :=
  [.back 0, .back 1, .back 2, .back 3, .back 4, .back 5, .back 6, .back 7, .back 9, .back 13, .back 14, .back 12,
   .back 8, .back 10, .back 11, .back 15, .back 16, .back 17, .out 0 12, .out 1 11]

/-! ## The printed offsets and devices -/

section Offsets
variable (c : Dev nD)

theorem o1 : k0_off1 c = off 0 c := by revert c; decide +kernel
theorem o2 : k0_off2 c = off 1 c := by revert c; decide +kernel
theorem o3 : k0_off3 c = off 0 c := by revert c; decide +kernel
theorem o4 : k0_off4 c = off 2 c := by revert c; decide +kernel
theorem o5 : k0_off5 c = off 1 c := by revert c; decide +kernel
theorem o6a : k0_off6 c 512#32 = off 3 c := by revert c; decide +kernel
theorem o6b : k0_off6 c 1024#32 = off 4 c := by revert c; decide +kernel
theorem o6c : k0_off6 c 1536#32 = off 5 c := by revert c; decide +kernel
theorem o7 : k0_off7 c = off 2 c := by revert c; decide +kernel
theorem o8a : k0_off8 c 512#32 = off 3 c := by revert c; decide +kernel
theorem o8b : k0_off8 c 1024#32 = off 4 c := by revert c; decide +kernel
theorem o8c : k0_off8 c 1536#32 = off 5 c := by revert c; decide +kernel
theorem o9a : k0_off9 c 1536#32 = off 5 c := by revert c; decide +kernel
theorem o9b : k0_off9 c 1792#32 = off 6 c := by revert c; decide +kernel
theorem o10a : k0_off10 c 1536#32 = off 5 c := by revert c; decide +kernel
theorem o10b : k0_off10 c 1792#32 = off 6 c := by revert c; decide +kernel
theorem o11 : k0_off11 c = off 7 c := by revert c; decide +kernel
theorem o12 : k0_off12 c = off 9 c := by revert c; decide +kernel
theorem o13 : k0_off13 c = off 7 c := by revert c; decide +kernel
theorem o14 : k0_off14 c = off 8 c := by revert c; decide +kernel
theorem o15 : k0_off15 c = off 9 c := by revert c; decide +kernel
theorem o16 : k0_off16 c = off 10 c := by revert c; decide +kernel
theorem o17 : k0_off17 c = off 8 c := by revert c; decide +kernel
theorem o18 : k0_off18 c = off 11 c := by revert c; decide +kernel
theorem o19 : k0_off19 c = off 10 c := by revert c; decide +kernel
theorem o20 : k0_off20 c = off 12 c := by revert c; decide +kernel
theorem o21 : k0_off21 c = off 11 c := by revert c; decide +kernel
theorem o22 : k0_off22 c = off 13 c := by revert c; decide +kernel
theorem o23 : k0_off23 c = off 12 c := by revert c; decide +kernel
theorem o24a : k0_off24 c 512#32 = off 14 c := by revert c; decide +kernel
theorem o24b : k0_off24 c 1024#32 = off 15 c := by revert c; decide +kernel
theorem o24c : k0_off24 c 1536#32 = off 16 c := by revert c; decide +kernel
theorem o25 : k0_off25 c = off 13 c := by revert c; decide +kernel
theorem o26a : k0_off26 c 512#32 = off 14 c := by revert c; decide +kernel
theorem o26b : k0_off26 c 1024#32 = off 15 c := by revert c; decide +kernel
theorem o26c : k0_off26 c 1536#32 = off 16 c := by revert c; decide +kernel
theorem o27a : k0_off27 c 1536#32 = off 16 c := by revert c; decide +kernel
theorem o27b : k0_off27 c 1792#32 = off 17 c := by revert c; decide +kernel

theorem d1 : (⟨k0_dev1 c, k0_dev1_lt c⟩ : Dev nD) = nb 0 c := by revert c; decide +kernel
theorem d2 : (⟨k0_dev2 c, k0_dev2_lt c⟩ : Dev nD) = nb 1 c := by revert c; decide +kernel
theorem d3 : (⟨k0_dev3 c, k0_dev3_lt c⟩ : Dev nD) = nb 2 c := by revert c; decide +kernel
theorem d4 : (⟨k0_dev4 c, k0_dev4_lt c⟩ : Dev nD) = nb 0 c := by revert c; decide +kernel
theorem d5 : (⟨k0_dev5 c, k0_dev5_lt c⟩ : Dev nD) = nb 0 c := by revert c; decide +kernel
theorem d6 : (⟨k0_dev6 c, k0_dev6_lt c⟩ : Dev nD) = nb 0 c := by revert c; decide +kernel
theorem d7 : (⟨k0_dev7 c, k0_dev7_lt c⟩ : Dev nD) = nb 0 c := by revert c; decide +kernel
theorem d8 : (⟨k0_dev8 c, k0_dev8_lt c⟩ : Dev nD) = nb 0 c := by revert c; decide +kernel
theorem d9 : (⟨k0_dev9 c, k0_dev9_lt c⟩ : Dev nD) = nb 0 c := by revert c; decide +kernel
theorem d10 : (⟨k0_dev10 c, k0_dev10_lt c⟩ : Dev nD) = nb 0 c := by revert c; decide +kernel
theorem d11 : (⟨k0_dev11 c, k0_dev11_lt c⟩ : Dev nD) = nb 1 c := by revert c; decide +kernel
theorem d12 : (⟨k0_dev12 c, k0_dev12_lt c⟩ : Dev nD) = nb 2 c := by revert c; decide +kernel
theorem d13 : (⟨k0_dev13 c, k0_dev13_lt c⟩ : Dev nD) = nb 1 c := by revert c; decide +kernel
theorem d14 : (⟨k0_dev14 c, k0_dev14_lt c⟩ : Dev nD) = nb 2 c := by revert c; decide +kernel
theorem d15 : (⟨k0_dev15 c, k0_dev15_lt c⟩ : Dev nD) = nb 2 c := by revert c; decide +kernel
theorem d16 : (⟨k0_dev16 c, k0_dev16_lt c⟩ : Dev nD) = nb 1 c := by revert c; decide +kernel
theorem d17 : (⟨k0_dev17 c, k0_dev17_lt c⟩ : Dev nD) = nb 1 c := by revert c; decide +kernel
theorem d18 : (⟨k0_dev18 c, k0_dev18_lt c⟩ : Dev nD) = nb 1 c := by revert c; decide +kernel
theorem d19 : (⟨k0_dev19 c, k0_dev19_lt c⟩ : Dev nD) = nb 2 c := by revert c; decide +kernel
theorem d20 : (⟨k0_dev20 c, k0_dev20_lt c⟩ : Dev nD) = nb 2 c := by revert c; decide +kernel
theorem d21 : (⟨k0_dev21 c, k0_dev21_lt c⟩ : Dev nD) = nb 2 c := by revert c; decide +kernel

end Offsets

variable (c : Dev nD) (k : Run F)

theorem phase1_eq : phase1 c k = carry c plan1 k := by
  unfold phase1
  simp only [o1 c, o2 c, o3 c, o4 c, o5 c, o6a c, o6b c, o7 c, o8a c, o8b c, o9a c, o9b c, o10a c, o10b c, o11 c, o12 c,
    d4 c, d5 c, d6 c, d7 c, d8 c, d9 c, d10 c]
  rfl
theorem phase2_eq : phase2 c k = carry c plan2 k := by
  unfold phase2
  simp only [o1 c, o2 c, o3 c, o5 c, o11 c, o12 c, o13 c, o14 c, o15 c, o16 c, o17 c, o18 c, o19 c, o20 c, o21 c, o22 c,
    d11 c, d12 c, d13 c, d14 c, d15 c, d16 c]
  rfl
theorem phase3_eq : phase3 c k = carry c plan3 k := by
  unfold phase3
  simp only [o4 c, o6a c, o6b c, o7 c, o8a c, o8b c, o9a c, o12 c, o14 c, o15 c, o16 c, o19 c, o20 c, o22 c, o23 c, o24a c, o24b c, o24c c,
    o25 c, o26a c, o26b c, d17 c, d18 c, d19 c]
  rfl
theorem phase4_eq : phase4 c k = carry c plan4 k := by
  unfold phase4
  simp only [o6a c, o6b c, o6c c, o8c c, o9a c, o9b c, o18 c, o20 c, o21 c, o22 c, o23 c, o24a c, o24b c, o24c c, o25 c, o26a c, o26b c, o26c c,
    o27a c, o27b c, d20 c, d21 c]
  rfl
theorem phase5_eq : phase5 c k = carry c plan5 k := by
  unfold phase5
  simp only [o1 c, o2 c, o4 c, o6a c, o6b c, o9a c, o9b c, o11 c, o16 c, o18 c, o20 c]
  rfl

/-- The plan. -/
def plan : List Move := plan1 ++ (plan2 ++ (plan3 ++ (plan4 ++ plan5)))

/-- The body is the handshake and the plan. -/
theorem text_eq : text (F := F) c = meet (nb 0 c) (nb 1 c) (nb 2 c) (carry c plan (.ret ⟨⟩)) := by
  unfold text
  rw [phase5_eq, phase4_eq, phase3_eq, phase2_eq, phase1_eq, d1, d2, d3]
  unfold plan carry
  rw [List.foldr_append, List.foldr_append, List.foldr_append, List.foldr_append]

end Cert.KernelIdeal.AllReduce
-- ==== Proof.State.lean ====
module

public import proofs.«01_k».proof.Proof.Plan

/-!
# What the plan has done so far

A record of how far a device is: what its slots hold, which pieces are cast, received, on their way to the result or
there, and which sends are made or done. Each move is allowed from some records and leads to another; the plan leads,
all moves allowed, from the record of nothing done to the record of everything done.
-/

@[expose] public section

noncomputable section

namespace Cert.KernelIdeal.AllReduce

/-- How far a device is. -/
structure St where
  /-- The block being fetched into each slot of `stage`, -/
  inn : Fin 2 → Option (Fin 20)
  /-- and the one being copied out of each slot of `ostage`. -/
  outn : Fin 2 → Option (Fin 20)
  /-- The pieces of `own` cast, -/
  cast : Finset (Fin 18)
  /-- the pieces of `recv` landed, -/
  got : Finset (Fin 18)
  /-- the pieces of the result begun -/
  out : Finset (Fin 18)
  /-- and those finished. -/
  done : Finset (Fin 18)
  /-- How many sends are made, -/
  n : ℕ
  /-- and which of them are known to be done. -/
  back : Finset (Fin 18)

namespace St

/-- A send across direction `k` is reading piece `p`. -/
def lent (σ : St) (k : Fin 3) (p : Fin 18) : Bool := decide (∃ s, (dir s = k ∧ src s = p) ∧ s.val < σ.n ∧ s ∉ σ.back)

/-- The move is allowed. -/
def Ok (σ : St) : Move → Prop
  | .start b _ => σ.inn b = none
  | .cast b B => σ.inn b = some B ∧ ∀ p ∈ parts B, p ∉ σ.cast ∧ σ.lent 0 p = false
  | .send s => s.val = σ.n ∧ s ∉ σ.back ∧ (if dir s = 0 then src s ∈ σ.cast else src s ∈ σ.got) ∧ σ.lent (dir s) (src s) = false
  | .got s => s ∉ σ.got ∧ s.val < σ.n ∧ σ.lent 1 s = false ∧ σ.lent 2 s = false
  | .emit b B => σ.outn b = none ∧ tall B = true ∧ ∀ p ∈ parts B, p ∈ σ.cast ∧ p ∈ σ.got ∧ p ∉ σ.out ∧ p ∉ σ.done
  | .out b B => σ.outn b = some B ∧ tall B = true ∧ ∀ p ∈ parts B, p ∈ σ.out ∧ p ∉ σ.done
  | .back s => s ∉ σ.back ∧ s.val < σ.n ∧ (if dir s = 0 then src s ∈ σ.cast else src s ∈ σ.got)

instance (σ : St) (mv : Move) : Decidable (σ.Ok mv) := by
  cases mv <;> unfold Ok <;> infer_instance

/-- The record after the move. -/
def after (σ : St) : Move → St
  | .start b B => { σ with inn := Function.update σ.inn b (some B) }
  | .cast b B => { σ with inn := Function.update σ.inn b none, cast := σ.cast ∪ parts B }
  | .send _ => { σ with n := σ.n + 1 }
  | .got s => { σ with got := insert s σ.got }
  | .emit b B => { σ with outn := Function.update σ.outn b (some B), out := σ.out ∪ parts B }
  | .out b B => { σ with outn := Function.update σ.outn b none, done := σ.done ∪ parts B }
  | .back s => { σ with back := insert s σ.back }

/-- Nothing done. -/
def zero : St := ⟨fun _ => none, fun _ => none, ∅, ∅, ∅, ∅, 0, ∅⟩

/-- All the moves of a list are allowed, one after another. -/
def Allowed : St → List Move → Prop
  | _, [] => True
  | σ, mv :: l => σ.Ok mv ∧ (σ.after mv).Allowed l

instance decAllowed : (σ : St) → (l : List Move) → Decidable (σ.Allowed l)
  | _, [] => isTrue trivial
  | σ, mv :: l => by
    have := decAllowed (σ.after mv) l
    unfold Allowed
    infer_instance

/-- The record after a list of moves. -/
def finish (σ : St) (l : List Move) : St := l.foldl after σ

theorem plan_allowed : zero.Allowed plan := by decide +kernel
theorem plan_inn (b : Fin 2) : (zero.finish plan).inn b = none := by revert b; decide +kernel
theorem plan_outn (b : Fin 2) : (zero.finish plan).outn b = none := by revert b; decide +kernel
theorem plan_cast (p : Fin 18) : p ∈ (zero.finish plan).cast := by revert p; decide +kernel
theorem plan_got (p : Fin 18) : p ∈ (zero.finish plan).got := by revert p; decide +kernel
theorem plan_done (p : Fin 18) : p ∈ (zero.finish plan).done := by revert p; decide +kernel
theorem plan_n : (zero.finish plan).n = 18 := by decide +kernel
theorem plan_back (p : Fin 18) : p ∈ (zero.finish plan).back := by revert p; decide +kernel
theorem plan_lent (k : Fin 3) (p : Fin 18) : (zero.finish plan).lent k p = false := by revert k p; decide +kernel

/-! ## How the lending changes -/

/-- Two sends across one direction read different pieces. -/
theorem src_inj (s s' : Fin 18) (hd : dir s = dir s') (hs : src s = src s') : s = s' := by revert s s'; decide

variable {σ : St} {s : Fin 18}

theorem lent_iff {k : Fin 3} {p : Fin 18} : σ.lent k p = true ↔ ∃ s, (dir s = k ∧ src s = p) ∧ s.val < σ.n ∧ s ∉ σ.back := by
  unfold lent; exact decide_eq_true_iff

/-- A send lends what it reads -/
theorem lent_send_self (h : σ.Ok (.send s)) : (σ.after (.send s)).lent (dir s) (src s) = true :=
  lent_iff.mpr ⟨s, ⟨rfl, rfl⟩, by show s.val < σ.n + 1; have := h.1; omega, h.2.1⟩
/-- and nothing else; -/
theorem lent_send_other (h : σ.Ok (.send s)) {k : Fin 3} {p : Fin 18} (hkp : ¬ (dir s = k ∧ src s = p)) :
    (σ.after (.send s)).lent k p = σ.lent k p := by
  rw [Bool.eq_iff_iff, lent_iff, lent_iff]
  refine exists_congr fun s' => and_congr_right fun hs' => and_congr_left fun _ => ?_
  show s'.val < σ.n + 1 ↔ s'.val < σ.n
  have : s'.val ≠ s.val := fun e => hkp (by rw [← Fin.ext e]; exact hs')
  have := h.1
  omega
/-- once it is done that is back, -/
theorem lent_back_self : (σ.after (.back s)).lent (dir s) (src s) = false := by
  rw [← Bool.not_eq_true, lent_iff]
  rintro ⟨s', ⟨h1, h2⟩, -, h3⟩
  exact h3 (by rw [src_inj s' s h1 h2]; exact Finset.mem_insert_self _ _)
/-- having been lent until then, -/
theorem lent_before_back (h : σ.Ok (.back s)) : σ.lent (dir s) (src s) = true := lent_iff.mpr ⟨s, ⟨rfl, rfl⟩, h.2.1, h.1⟩
/-- and nothing else is. -/
theorem lent_back_other {k : Fin 3} {p : Fin 18} (hkp : ¬ (dir s = k ∧ src s = p)) : (σ.after (.back s)).lent k p = σ.lent k p := by
  rw [Bool.eq_iff_iff, lent_iff, lent_iff]
  refine exists_congr fun s' => and_congr_right fun hs' => and_congr_right fun _ => ?_
  show s' ∉ insert s σ.back ↔ s' ∉ σ.back
  have : s' ≠ s := fun e => hkp (by rw [← e]; exact hs')
  rw [Finset.mem_insert, not_or]
  exact and_iff_right this

end St

end Cert.KernelIdeal.AllReduce
-- ==== Proof.Protocol.lean ====
module

public import proofs.«01_k».proof.Proof.Contents
public import proofs.«01_k».proof.Proof.State
public import proofs.«01_k».proof.Proof.Gen.KernelIdeal.Launch
public import Idealize.ShloMosaic.Lib.Pipeline.Launch
public import Idealize.ShloMosaic.Lib.Transfers

/-!
# Who hands what to whom

Every device's barrier semaphore, its 18 receive semaphores and its 18 send semaphores carry one round each. The barrier
is signalled by the three neighbours, each handing over the pieces of its own `recv` that the device is to send to; the
`s`-th receive semaphore hands the device piece `s` of its `recv`, holding the sender's argument narrowed; the `s`-th
send semaphore hands back what send `s` was lent.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev U2 : Type := URounds (GSem nD τ sig) (Fin 3)
abbrev UU : Type := UR sig nD τ × (U2 × Counters)

local notation "𝕄" => MT nD τ sig Unit (Elt F) ℕ UU ℕ

abbrev EP : Emb (UR sig nD τ) (MT nD τ sig Unit (Elt F) ℕ UU ℕ) := embL
/-- The rounds of the semaphores devices share. -/
def ER : Emb U2 (MT nD τ sig Unit (Elt F) ℕ UU ℕ) :=
  ((Emb.inl : Emb U2 (U2 × Counters)).trans (Emb.inr : Emb (U2 × Counters) UU)).trans
    (uEmb (nD := nD) (sig := sig) (Ix := Unit) (Val := Elt F) (Name := ℕ) (U := UU) (Lvl := ℕ)).toEmb
omit [FloatOps F] in
instance ER_lands : (ER : Emb U2 𝕄).LandsIn (upEmb : UEmb _ 𝕄) := by unfold ER; infer_instance
/-- The counters of a device's own copies. -/
abbrev EC : UEmb Counters (MT nD τ sig Unit (Elt F) ℕ UU ℕ) := countersEmb

/-! ## Buffers held -/

abbrev argP (c : Dev nD) (q : PosShare TreeShare) (S : Finset S8192x1024.Idx) (f : Wide F) : sProp 𝕄 :=
  ((c : Thread nD τ).loc main_arg0) ↦[S]{q} f
abbrev outP (c : Dev nD) (S : Finset S8192x1024.Idx) (f : Narrow F) : sProp 𝕄 :=
  ((c : Thread nD τ).loc main_v1) ↦[S]{fullShare} f
abbrev ownP (c : Dev nD) (q : PosShare TreeShare) (S : Finset S8192x1024.Idx) (f : Narrow F) : sProp 𝕄 :=
  ((c : Thread nD τ).loc cc0_scratch0) ↦[S]{q} f
abbrev recvP (c : Dev nD) (q : PosShare TreeShare) (S : Finset S8192x1024.Idx) (f : Narrow F) : sProp 𝕄 :=
  ((c : Thread nD τ).loc cc0_scratch1) ↦[S]{q} f
abbrev stageP (c : Dev nD) (S : Finset S2x512x1024.Idx) (f : FVec F S2x512x1024 .f32) : sProp 𝕄 :=
  ((c : Thread nD τ).loc cc0_scratch2) ↦[S]{fullShare} f
abbrev ostageP (c : Dev nD) (S : Finset S2x512x1024.Idx) (f : FVec F S2x512x1024 .bf16) : sProp 𝕄 :=
  ((c : Thread nD τ).loc cc0_scratch3) ↦[S]{fullShare} f

/-- The share of a piece that a send across direction `k` is lent. -/
def shareOf (k : Fin 3) : PosShare TreeShare := match k with
  | 0 => fullShare.right
  | 1 => fullShare.right.left
  | 2 => fullShare.right.right

/-! ## The semaphores shared -/

abbrev barCell (c : Dev nD) : GSem nD τ sig := ((c : Thread nD τ), .reg barrier0)
abbrev recvCell (s : Fin 18) (c : Dev nD) : GSem nD τ sig := ((c : Thread nD τ), .dma (recvSem s))
abbrev sendCell (s : Fin 18) (c : Dev nD) : GSem nD τ sig := ((c : Thread nD τ), .dma (sendSem s))

/-- Which send a semaphore is for, `true` at its receiver; the first four are for a device's own copies. -/
def role (q : DmaSem sig) : Option (Bool × Fin 18) :=
  (![none, none, none, none, some (false, 0), some (false, 1), some (false, 2), some (false, 3), some (false, 4), some (false, 5), some (false, 6),
    some (true, 0), some (true, 1), some (true, 2), some (true, 3), some (true, 4), some (true, 5), some (true, 6),
    some (false, 7), some (false, 9), some (false, 13), some (false, 14), some (false, 12),
    some (true, 7), some (true, 9), some (true, 13), some (true, 14), some (true, 12),
    some (false, 8), some (false, 10), some (false, 11), some (false, 15), some (false, 16), some (false, 17),
    some (true, 8), some (true, 10), some (true, 11), some (true, 15), some (true, 16), some (true, 17)] :
    Fin 40 → Option (Bool × Fin 18)) q

theorem role_recv (s : Fin 18) : role (recvSem s) = some (true, s) := by revert s; decide
theorem role_send (s : Fin 18) : role (sendSem s) = some (false, s) := by revert s; decide
theorem role_in (b : Fin 2) : role (inS b) = none := by revert b; decide
theorem role_out (b : Fin 2) : role (outS b) = none := by revert b; decide

/-- What send `s` moves, as the semaphores count it. -/
def amt (s : Fin 18) : ℕ := (rowsOf recv (tallOf s) (off s 0) (inbOff (tallOf_le s) s 0)).view.dmaCredit

theorem tall_pos (s : Fin 18) : 0 < (Rows (tallOf s)).numel := by
  unfold tallOf height
  split
  · exact h_S512x1024
  · exact h_S256x1024
theorem amt_pos (s : Fin 18) : 0 < amt s := View.dmaCredit_pos _ (tall_pos s)
theorem amt_recv (s : Fin 18) (o : Fin 2 → ℕ) (hi : Inb (tallOf s) o) : (rowsOf recv (tallOf s) o hi).view.dmaCredit = amt s := rfl
theorem amt_own (s : Fin 18) (o : Fin 2 → ℕ) (hi : Inb (tallOf s) o) : (rowsOf own (tallOf s) o hi).view.dmaCredit = amt s := rfl

/-! ## The payloads -/

variable (A : Dev nD → Wide F)

/-- The pieces of neighbour `nb k d`'s `recv` that `d` sends to. -/
def landing (k : Fin 3) (d : Dev nD) : sProp 𝕄 :=
  bigSep (Finset.univ.filter fun s : Fin 18 => dir s = k) fun s => iprop(∃ f, recvP (nb k d) fullShare (piece s (nb k d)) f)

/-- What send `s` leaves on its receiver. -/
def landed (s : Fin 18) (d : Dev nD) : sProp 𝕄 := recvP d fullShare (piece s d) (narrow (A (orig s d)))

/-- What send `s` is lent, and hands back. -/
def lends (s : Fin 18) (c : Dev nD) : sProp 𝕄 :=
  if dir s = 0 then ownP c (shareOf (dir s)) (piece (src s) c) (narrow (A c))
  else recvP c (shareOf (dir s)) (piece (src s) c) (narrow (A (orig (src s) c)))

omit [FloatOps F] in
instance landing_storable (k : Fin 3) (d : Dev nD) : BI.Storable (upEmb : UEmb _ 𝕄) (landing (F := F) k d) := by unfold landing; infer_instance
instance landed_storable (s : Fin 18) (d : Dev nD) : BI.Storable (upEmb : UEmb _ 𝕄) (landed A s d) := by unfold landed; infer_instance
instance lends_storable (s : Fin 18) (c : Dev nD) : BI.Storable (upEmb : UEmb _ 𝕄) (lends A s c) := by
  unfold lends; split <;> infer_instance

/-- What a semaphore hands over. -/
def handed (g : GSem nD τ sig) (k : Fin 3) : sProp 𝕄 := match g.2 with
  | .reg _ => landing k g.1.1
  | .dma q => match role q with
    | some (true, s) => landed A s g.1.1
    | some (false, s) => lends A s g.1.1
    | none => iprop(emp)

instance handed_storable (g : GSem nD τ sig) (k : Fin 3) : BI.Storable (upEmb : UEmb _ 𝕄) (handed A g k) := by
  unfold handed
  (repeat' split) <;> infer_instance

/-- Who pays into a semaphore: the three neighbours into a barrier, one transfer into each of the others. -/
def payers (g : GSem nD τ sig) : Finset (Fin 3) := match g.2 with
  | .reg q => if q = barrier0 then Finset.univ else ∅
  | .dma q => if (role q).isSome then {0} else ∅

/-- How much each pays. -/
def price (g : GSem nD τ sig) : ℕ := match g.2 with
  | .reg _ => 1
  | .dma q => match role q with
    | some (_, s) => amt s
    | none => 1

theorem price_pos (g : GSem nD τ sig) : 0 < price g := by
  unfold price
  (repeat' split)
  · exact Nat.one_pos
  · exact amt_pos _
  · exact Nat.one_pos

/-- The one round of every shared semaphore. -/
def plot : Rounds.Schedule (GSem nD τ sig) (Fin 3) 𝕄 where
  duties g r := if r = 0 ∧ g.1.2 = .tc then payers g else ∅
  unitless _ := False
  amount g _ _ := price g
  payload g _ k := handed A g k
  amount_pos g _ _ _ := price_pos g

instance plot_storable (g : GSem nD τ sig) (r : ℕ) (k : Fin 3) : BI.Storable (upEmb : UEmb _ 𝕄) ((plot A).payload g r k) :=
  handed_storable A g k

section Facts
variable (c : Dev nD) (s : Fin 18)

theorem duties_first (g : GSem nD τ sig) (h : g.1.2 = .tc) : (plot A).duties g 0 = payers g := by
  show (if 0 = 0 ∧ g.1.2 = .tc then payers g else ∅) = payers g
  exact if_pos ⟨rfl, h⟩
theorem duties_bar : (plot A).duties (barCell c) 0 = Finset.univ := rfl
theorem duties_recv : (plot A).duties (recvCell s c) 0 = {0} := by
  refine (duties_first A _ rfl).trans ?_
  unfold payers; dsimp only; rw [role_recv]; rfl
theorem duties_send : (plot A).duties (sendCell s c) 0 = {0} := by
  refine (duties_first A _ rfl).trans ?_
  unfold payers; dsimp only; rw [role_send]; rfl
theorem duties_later (g : GSem nD τ sig) : ∀ r, 1 ≤ r → (plot A).duties g r = ∅ := fun r hr => if_neg fun h => by omega

theorem price_recv : price (recvCell s c) = amt s := by unfold price; dsimp only; rw [role_recv]
theorem price_send : price (sendCell s c) = amt s := by unfold price; dsimp only; rw [role_send]

theorem handed_recv (k : Fin 3) : handed A (recvCell s c) k = landed A s c := by unfold handed; dsimp only; rw [role_recv]
theorem handed_send (k : Fin 3) : handed A (sendCell s c) k = lends A s c := by unfold handed; dsimp only; rw [role_send]

theorem expect_bar : (plot A).expect (barCell c) 0 = 3 := by
  unfold Schedule.expect Schedule.amountOf
  rw [duties_bar]; rfl
theorem expect_recv : (plot A).expect (recvCell s c) 0 = amt s := by
  unfold Schedule.expect Schedule.amountOf
  rw [duties_recv, Finset.sum_singleton]; exact price_recv c s
theorem expect_send : (plot A).expect (sendCell s c) 0 = amt s := by
  unfold Schedule.expect Schedule.amountOf
  rw [duties_send, Finset.sum_singleton]; exact price_send c s

theorem rest_bar : bigSep ((plot A).duties (barCell c) 0 \ ∅) (fun k => (plot A).payload (barCell c) 0 k)
    = iprop(landing 0 c ∗ landing 1 c ∗ landing 2 c) := by
  rw [Finset.sdiff_empty, duties_bar, bigSep_univ_eq_bigSepL [0, 1, 2] (by decide) (by decide)]; rfl
theorem rest_recv : bigSep ((plot A).duties (recvCell s c) 0 \ ∅) (fun k => (plot A).payload (recvCell s c) 0 k) = landed A s c := by
  rw [Finset.sdiff_empty, duties_recv, bigSep_singleton]; exact handed_recv A c s 0
theorem rest_send : bigSep ((plot A).duties (sendCell s c) 0 \ ∅) (fun k => (plot A).payload (sendCell s c) 0 k) = lends A s c := by
  rw [Finset.sdiff_empty, duties_send, bigSep_singleton]; exact handed_send A c s 0

end Facts

/-! ## What a device owes, and in what order it may wait -/

/-- What device `c` owes once `n` sends are made: the others, to their receivers. -/
def owed (c : Dev nD) (n : ℕ) : CellTallies nD τ sig Unit :=
  ∑ s ∈ Finset.univ.filter (fun s : Fin 18 => n ≤ s.val), tallyAt (recvCell s (peer s c)) () (amt s)

/-- At first it also owes a unit to each neighbour's barrier. -/
def owedB (c : Dev nD) : CellTallies nD τ sig Unit := owed c 0 + tallyAt (barCell (nb 2 c)) () 1
def owedA (c : Dev nD) : CellTallies nD τ sig Unit := owedB c + tallyAt (barCell (nb 1 c)) () 1
def O₀ (c : Dev nD) : CellTallies nD τ sig Unit := owedA c + tallyAt (barCell (nb 0 c)) () 1

theorem owed_step (c : Dev nD) (s : Fin 18) : owed c s.val = owed c (s.val + 1) + tallyAt (recvCell s (peer s c)) () (amt s) := by
  unfold owed
  have h : (Finset.univ.filter fun s' : Fin 18 => s.val ≤ s'.val) = insert s (Finset.univ.filter fun s' : Fin 18 => s.val + 1 ≤ s'.val) := by
    ext s'
    simp only [Finset.mem_filter, Finset.mem_univ, true_and, Finset.mem_insert, Fin.ext_iff]
    omega
  rw [h, Finset.sum_insert (by simp), add_comm]
theorem owed_last (c : Dev nD) : owed c 18 = 0 := by
  unfold owed
  rw [Finset.filter_false_of_mem fun s _ => by have := s.isLt; omega]
  rfl

theorem owed_apply (c : Dev nD) (n : ℕ) (g : GSem nD τ sig) (u : Unit) :
    owed c n g u = ∑ s ∈ Finset.univ.filter (fun s : Fin 18 => n ≤ s.val), tallyAt (recvCell s (peer s c)) () (amt s) g u := by
  unfold owed
  rw [Finset.sum_apply, Finsupp.finset_sum_apply]

omit [FloatOps F] in
theorem tallyAt_pos {g g' : GSem nD τ sig} {n : ℕ} {u : Unit} (h : 0 < tallyAt g' () n g u) : g = g' := by
  by_contra hg
  rw [tallyAt_apply, if_neg fun h' => hg h'.1] at h
  exact absurd h (lt_irrefl 0)

theorem owed_pos {c : Dev nD} {n : ℕ} {g : GSem nD τ sig} {u : Unit} (h : 0 < owed c n g u) :
    ∃ s : Fin 18, n ≤ s.val ∧ g = recvCell s (peer s c) := by
  rw [owed_apply] at h
  obtain ⟨s, hs, hne⟩ := Finset.exists_ne_zero_of_sum_ne_zero (Nat.pos_iff_ne_zero.mp h)
  exact ⟨s, (Finset.mem_filter.mp hs).2, tallyAt_pos (Nat.pos_of_ne_zero hne)⟩

theorem O₀_pos {c : Dev nD} {g : GSem nD τ sig} {u : Unit} (h : 0 < O₀ c g u) :
    (∃ s : Fin 18, g = recvCell s (peer s c)) ∨ ∃ d, g = barCell d := by
  have h3 : O₀ c g u = owed c 0 g u + tallyAt (barCell (nb 2 c)) () 1 g u + tallyAt (barCell (nb 1 c)) () 1 g u
      + tallyAt (barCell (nb 0 c)) () 1 g u := rfl
  rw [h3] at h
  rcases Nat.eq_zero_or_pos (tallyAt (barCell (nb 0 c)) () 1 g u) with h0 | h0
  · rcases Nat.eq_zero_or_pos (tallyAt (barCell (nb 1 c)) () 1 g u) with h1 | h1
    · rcases Nat.eq_zero_or_pos (tallyAt (barCell (nb 2 c)) () 1 g u) with h2 | h2
      · obtain ⟨s, -, hg⟩ := owed_pos (c := c) (n := 0) (g := g) (u := u) (by omega)
        exact Or.inl ⟨s, hg⟩
      · exact Or.inr ⟨_, tallyAt_pos h2⟩
    · exact Or.inr ⟨_, tallyAt_pos h1⟩
  · exact Or.inr ⟨_, tallyAt_pos h0⟩

/-- Every count carries the one index. -/
def L (g : GSem nD τ sig) : Finset Unit := if g.1.2 = .tc then {()} else ∅
/-- The order of waiting: a device's own copies and its sends first, the barrier next, then the receives in turn. -/
def lv (g : GSem nD τ sig) (_ : Unit) : ℕ := match g.2 with
  | .reg _ => 1
  | .dma q => match role q with
    | some (true, s) => 2 + s.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (s : Fin 18) (c : Dev nD) : lv (recvCell s c) () = 2 + s.val := by unfold lv; dsimp only; rw [role_recv]

omit [FloatOps F] in
/-- A device may wait on anything below everything it owes. -/
theorem may_wait (c : Dev nD) (n : ℕ) (sm : SemLoc sig) (h : lv ((c : Thread nD τ), sm) () ≤ 1 + n) :
    (levAts L lv : sProp 𝕄) ⊢ MayWait (c : Thread nD τ) sm () (owed c n) :=
  MayOwe.of_cut (L := L) (lev := lv) (1 + n) (fun p hp => by rw [Finset.mem_singleton.mp hp, L_tc]; exact Finset.mem_singleton_self _)
    (fun g u hg => by obtain ⟨s, -, rfl⟩ := owed_pos hg; exact Finset.mem_singleton_self _)
    (fun p hp => by rw [Finset.mem_singleton.mp hp]; exact h)
    (fun g u hg => by obtain ⟨s, hs, rfl⟩ := owed_pos hg; show _ < lv (recvCell s _) (); rw [lv_recv]; omega)

end Cert.KernelIdeal.AllReduce
-- ==== Proof.Resources.lean ====
module

public import proofs.«01_k».proof.Proof.Protocol

/-!
# What a device holds

For each record of how far a device is, what it holds then: of each piece of `own`, `recv` and the result, of each send
and receive, and of each slot.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- What a program ends in. -/
abbrev Post (F : FTy → Type) [FloatOps F] := PUnit.{1} → sProp (MT nD τ sig Unit (Elt F) ℕ UU ℕ)
/-- The program `k` runs on device `c` and ends in `Q`. -/
abbrev Runs (c : Dev nD) (k : Run F) (Q : Post F) : sProp 𝕄 :=
  wp frame (wpE (defs₀ (F := F)) 𝒱₀ (c : Thread nD τ) none) Set.univ k Q

variable (A : Dev nD → Wide F)

/-! ## The records every device keeps -/

/-- The semaphores devices share: the barrier, and one of each kind for each send. -/
abbrev Key : Type := Option (Bool × Fin 18)
def cellOfKey (x : Dev nD × Key) : GSem nD τ sig := match x.2 with
  | none => barCell x.1
  | some (true, s) => recvCell s x.1
  | some (false, s) => sendCell s x.1

/-- Every shared semaphore is in the protocol, at its first round or later, and has its level. -/
def recs (K : Dev nD × Key → ℕ) : sProp 𝕄 :=
  iprop((bigSep Finset.univ fun x : Dev nD × Key => cellInv ER (plot A) (K x) (cellOfKey x))
    ∗ (bigSep Finset.univ fun x : Dev nD × Key => reached ER (cellOfKey x) 0) ∗ levAts L lv)

instance recs_persistent (K : Dev nD × Key → ℕ) : Persistent (recs A K) := by unfold recs; infer_instance

variable (K : Dev nD × Key → ℕ)

theorem recs_inv (x : Dev nD × Key) : recs A K ⊢ cellInv ER (plot A) (K x) (cellOfKey x) := by
  have e : (bigSep Finset.univ fun x : Dev nD × Key => cellInv ER (plot A) (K x) (cellOfKey x)) ⊢ cellInv ER (plot A) (K x) (cellOfKey x) :=
    bigSep_elim (Finset.mem_univ x)
  unfold recs
  iintro ⟨H, -, -⟩
  iapply e $$ H
theorem recs_reached (x : Dev nD × Key) : recs A K ⊢ reached ER (cellOfKey x) 0 := by
  have e : (bigSep Finset.univ fun x : Dev nD × Key => (reached ER (cellOfKey x) 0 : sProp 𝕄)) ⊢ reached ER (cellOfKey x) 0 :=
    bigSep_elim (Finset.mem_univ x)
  unfold recs
  iintro ⟨-, H, -⟩
  iapply e $$ H
theorem recs_lev : recs A K ⊢ levAts L lv := by
  unfold recs
  iintro ⟨-, -, H⟩
  iexact H

/-! ## By piece, send and slot -/

/-- The result on piece `p`: the device's own argument and the one received, narrowed and added. -/
def total (p : Fin 18) (c : Dev nD) : Narrow F := addf (narrow (A c)) (narrow (A (orig p c)))

/-- A part lent is not held. -/
def whenHeld (lent : Bool) (P : sProp 𝕄) : sProp 𝕄 := if lent then iprop(emp) else P

/-- Piece `p` of `own`: once cast it holds the argument narrowed, and half of it may be lent. -/
def ownR (σ : St) (c : Dev nD) (p : Fin 18) : sProp 𝕄 :=
  if p ∈ σ.cast then
    iprop(ownP c fullShare.left (piece p c) (narrow (A c)) ∗ whenHeld (σ.lent 0 p) (ownP c (shareOf 0) (piece p c) (narrow (A c))))
  else iprop(∃ f, ownP c fullShare (piece p c) f)
/-- Piece `p` of `recv`: once landed it holds another device's argument narrowed, and two quarters of it may be lent. -/
def recvR (σ : St) (c : Dev nD) (p : Fin 18) : sProp 𝕄 :=
  if p ∈ σ.got then
    iprop(recvP c fullShare.left (piece p c) (narrow (A (orig p c)))
      ∗ whenHeld (σ.lent 1 p) (recvP c (shareOf 1) (piece p c) (narrow (A (orig p c))))
      ∗ whenHeld (σ.lent 2 p) (recvP c (shareOf 2) (piece p c) (narrow (A (orig p c)))))
  else iprop(emp)
/-- Piece `p` of the result. -/
def outR (σ : St) (c : Dev nD) (p : Fin 18) : sProp 𝕄 :=
  if p ∈ σ.done then outP c (piece p c) (total A p c)
  else if p ∈ σ.out then iprop(emp) else iprop(∃ f, outP c (piece p c) f)
/-- Send `s`: before it the right to make it, with where it lands; after it the right to wait for its end. -/
def sendR (σ : St) (c : Dev nD) (s : Fin 18) : sProp 𝕄 :=
  if s.val < σ.n then
    if s ∈ σ.back then atPos ER (sendCell s c) 1 ∅ 0
    else iprop(atPos ER (sendCell s c) 0 ∅ 0 ∗ cred (tallyAt (sendCell s c) () (amt s)))
  else iprop(atPos ER (sendCell s c) 0 ∅ 0 ∗ dutyTok ER (sendCell s c) 0 0 ∗ dutyTok ER (recvCell s (peer s c)) 0 0
    ∗ ∃ f, recvP (peer s c) fullShare (piece s (peer s c)) f)
/-- Receive `s`. -/
def gotR (σ : St) (c : Dev nD) (s : Fin 18) : sProp 𝕄 :=
  if s ∈ σ.got then atPos ER (recvCell s c) 1 ∅ 0
  else iprop(atPos ER (recvCell s c) 0 ∅ 0 ∗ cred (tallyAt (recvCell s c) () (amt s)))

/-- The share of the argument a slot fetches through. -/
def half (b : Fin 2) : PosShare TreeShare := match b with
  | 0 => fullShare.left
  | 1 => fullShare.right
/-- The elements of slot `b`, -/
abbrev slot (b : Fin 2) : Finset S2x512x1024.Idx := (slotRect fits512 b).set
/-- the rows of the argument a fetch of block `B` reads, -/
abbrev rowsIn (B : Fin 20) (c : Dev nD) : Finset S8192x1024.Idx := (rowsOf argM (height B) (off (head B) c) (inbB B c)).view.set
/-- and what it leaves in the slot. -/
abbrev fetched (b : Fin 2) (B : Fin 20) (c : Dev nD) (f : FVec F S2x512x1024 .f32) : FVec F S2x512x1024 .f32 :=
  (slotOf stage (fits B) b).view.write (Elt F) f ((rowsOf argM (height B) (off (head B) c) (inbB B c)).view.read (Elt F) (A c)) Finset.univ
/-- What a fetch of block `B` into slot `b` delivers. -/
def fetch (b : Fin 2) (B : Fin 20) (c : Dev nD) : sProp 𝕄 :=
  iprop((∃ f, stageP c (slot b) (fetched A b B c f)) ∗ argP c (half b) (rowsIn B c) (A c))
/-- Slot `b` of `stage`, with its share of the argument. -/
def inR (i : Option (Fin 20)) (c : Dev nD) (b : Fin 2) : sProp 𝕄 := match i with
  | none => iprop(semVal ((c : Thread nD τ), .dma (inS b)) 0 ∗ (∃ f, stageP c (slot b) f) ∗ argP c (half b) Finset.univ (A c))
  | some B => iprop(Transfers.Flight EC (c : Thread nD τ) (.dma (inS b)) () (slotOf stage (fits B) b).view.dmaCredit (fetch A b B c)
      ∗ argP c (half b) (Finset.univ \ rowsIn B c) (A c))

/-- What copying block `B` out of slot `b` delivers. -/
def deliver (b : Fin 2) (B : Fin 20) (c : Dev nD) : sProp 𝕄 :=
  iprop((bigSep (parts B) fun p => outP c (piece p c) (total A p c)) ∗ ∃ f, ostageP c (slot b) f)
/-- What a copy out of a slot counts. -/
abbrev outAmt : ℕ := (rowsOf outM 512 (off 0 0) (inbOff le_rfl 0 0)).view.dmaCredit
/-- Slot `b` of `ostage`. -/
def outSR (i : Option (Fin 20)) (c : Dev nD) (b : Fin 2) : sProp 𝕄 := match i with
  | none => iprop(semVal ((c : Thread nD τ), .dma (outS b)) 0 ∗ ∃ f, ostageP c (slot b) f)
  | some B => Transfers.Flight EC (c : Thread nD τ) (.dma (outS b)) () outAmt (deliver A b B c)

theorem inR_none (c : Dev nD) (b : Fin 2) : inR A none c b
    = iprop(semVal ((c : Thread nD τ), .dma (inS b)) 0 ∗ (∃ f, stageP c (slot b) f) ∗ argP c (half b) Finset.univ (A c)) := rfl
theorem inR_some (B : Fin 20) (c : Dev nD) (b : Fin 2) : inR A (some B) c b
    = iprop(Transfers.Flight EC (c : Thread nD τ) (.dma (inS b)) () (slotOf stage (fits B) b).view.dmaCredit (fetch A b B c)
      ∗ argP c (half b) (Finset.univ \ rowsIn B c) (A c)) := rfl
theorem outSR_none (c : Dev nD) (b : Fin 2) : outSR A none c b
    = iprop(semVal ((c : Thread nD τ), .dma (outS b)) 0 ∗ ∃ f, ostageP c (slot b) f) := rfl
theorem outSR_some (B : Fin 20) (c : Dev nD) (b : Fin 2) : outSR A (some B) c b
    = Transfers.Flight EC (c : Thread nD τ) (.dma (outS b)) () outAmt (deliver A b B c) := rfl

/-- All a device holds. -/
def res (σ : St) (c : Dev nD) : sProp 𝕄 :=
  iprop((bigSep Finset.univ (ownR A σ c)) ∗ (bigSep Finset.univ (recvR A σ c)) ∗ (bigSep Finset.univ (outR A σ c))
    ∗ (bigSep Finset.univ (sendR σ c)) ∗ (bigSep Finset.univ (gotR σ c))
    ∗ (bigSep Finset.univ fun b => inR A (σ.inn b) c b) ∗ (bigSep Finset.univ fun b => outSR A (σ.outn b) c b)
    ∗ ∃ W, owes (c : Thread nD τ) (owed c σ.n) W)

/-! ## Taking parts out -/

omit [FloatOps F] in
/-- Of a family whose members in `P` are to change: those out, and the whole back for the new ones. -/
theorem swap {I : Type} [Fintype I] [DecidableEq I] {Φ Ψ : I → sProp 𝕄} (P : Finset I) (h : ∀ i, i ∉ P → Ψ i = Φ i) :
    bigSep Finset.univ Φ ⊢ iprop(bigSep P Φ ∗ (bigSep P Ψ -∗ bigSep Finset.univ Ψ)) := by
  have hr : bigSep (Finset.univ \ P) Ψ = bigSep (Finset.univ \ P) Φ :=
    bigSep_congr fun i hi => h i (Finset.mem_sdiff.mp hi).2
  have e : bigSep Finset.univ Φ = iprop(bigSep P Φ ∗ bigSep (Finset.univ \ P) Φ) := bigSep_sdiff_split (Finset.subset_univ P)
  have e' : bigSep Finset.univ Ψ = iprop(bigSep P Ψ ∗ bigSep (Finset.univ \ P) Φ) := hr ▸ bigSep_sdiff_split (Finset.subset_univ P)
  rw [e, e']
  iintro ⟨H, Hr⟩
  isplitl [H]; · iexact H
  iintro H
  isplitl [H] <;> iassumption

omit [FloatOps F] in
/-- A buffer held in parts, with whatever it holds, is held whole. -/
theorem gather {ℓ : Loc nD τ sig} {I : Type} [DecidableEq I] (f₀ : Buf (Elt F) ℓ) (q : PosShare TreeShare) (P : Finset I)
    (R : I → Finset (Idx ℓ)) (h : ∀ i ∈ P, ∀ j ∈ P, i ≠ j → Disjoint (R i) (R j)) :
    (bigSep P fun i => iprop(∃ f : Buf (Elt F) ℓ, ℓ ↦[R i]{q} f)) ⊢ (iprop(∃ f : Buf (Elt F) ℓ, ℓ ↦[P.biUnion R]{q} f) : sProp 𝕄) := by
  have ne : Nonempty (Buf (Elt F) ℓ) := ⟨f₀⟩
  refine (bigSep_exists_pi (Y := fun _ => Buf (Elt F) ℓ) P fun i f => (ℓ ↦[R i]{q} f : sProp 𝕄)).trans ?_
  iintro ⟨%fs, H⟩
  ihave H := (pointsTo_biUnion_join P R fs f₀ h) $$ H
  icases H with ⟨%g, -, H⟩
  iexists g; iexact H

omit [FloatOps F] in
/-- A buffer held whole is held in parts. -/
theorem scatter {ℓ : Loc nD τ sig} {I : Type} [DecidableEq I] (f : Buf (Elt F) ℓ) (q : PosShare TreeShare) (P : Finset I)
    (R : I → Finset (Idx ℓ)) (h : ∀ i ∈ P, ∀ j ∈ P, i ≠ j → Disjoint (R i) (R j)) :
    (ℓ ↦[P.biUnion R]{q} f : sProp 𝕄) ⊢ bigSep P fun i => ℓ ↦[R i]{q} f := Entails.of_eq (pointsTo_biUnion P R h)

omit [FloatOps F] in
/-- A buffer held in parts, all holding one thing, to be read whole: the whole, and the parts back for it. -/
theorem peek {ℓ : Loc nD τ sig} {I : Type} [Fintype I] [DecidableEq I] (f : Buf (Elt F) ℓ) (q : PosShare TreeShare) (P : Finset I)
    (R : I → Finset (Idx ℓ)) (h : ∀ i ∈ P, ∀ j ∈ P, i ≠ j → Disjoint (R i) (R j)) {Φ X : I → sProp 𝕄}
    (hΦ : ∀ i ∈ P, Φ i = iprop((ℓ ↦[R i]{q} f) ∗ X i)) :
    bigSep Finset.univ Φ ⊢ iprop((ℓ ↦[P.biUnion R]{q} f) ∗ ((ℓ ↦[P.biUnion R]{q} f) -∗ bigSep Finset.univ Φ)) := by
  have e : bigSep Finset.univ Φ = iprop(((ℓ ↦[P.biUnion R]{q} f) ∗ bigSep P X) ∗ bigSep (Finset.univ \ P) Φ) := by
    rw [pointsTo_biUnion P R h, ← bigSep_sep', ← bigSep_congr hΦ]
    exact bigSep_sdiff_split (Finset.subset_univ P)
  rw [e]
  iintro ⟨⟨H, HX⟩, Hr⟩
  isplitl [H]; · iexact H
  iintro H
  isplitr [Hr]
  · isplitl [H] <;> iassumption
  · iexact Hr

/-- The rows of block `B`. -/
abbrev blockRows (B : Fin 20) (c : Dev nD) : Finset S8192x1024.Idx := (parts B).biUnion fun p => piece p c

theorem parts_disjoint (P : Finset (Fin 18)) (c : Dev nD) : ∀ i ∈ P, ∀ j ∈ P, i ≠ j → Disjoint (piece i c) (piece j c) :=
  fun i _ j _ h => piece_disjoint c i j h

theorem tall_height {B : Fin 20} (h : tall B = true) : height B = 512 := by unfold height; rw [h]

/-! ## The views' elements -/

theorem own_rows (B : Fin 20) (c : Dev nD) : (rowsOf own (height B) (off (head B) c) (inbB B c)).view.set = blockRows B c :=
  ((View.set_slice_whole _ _).trans (rectAt_set (n := height B) (off (head B) c) (inbB B c) rfl)).trans (block_eq B c)
theorem out_rows {B : Fin 20} (h : tall B = true) (c : Dev nD) (hi : Inb 512 (off (head B) c)) :
    (rowsOf outM 512 (off (head B) c) hi).view.set = blockRows B c := by
  have e := block_eq B c
  rw [tall_height h] at e
  exact ((View.set_slice_whole _ _).trans (rectAt_set (n := 512) (off (head B) c) hi rfl)).trans e
theorem own_rows_tall {B : Fin 20} (h : tall B = true) (c : Dev nD) (hi : Inb 512 (off (head B) c)) :
    (rowsOf own 512 (off (head B) c) hi).view.set = blockRows B c := by
  have e := block_eq B c
  rw [tall_height h] at e
  exact ((View.set_slice_whole _ _).trans (rectAt_set (n := 512) (off (head B) c) hi rfl)).trans e
theorem recv_rows_tall {B : Fin 20} (h : tall B = true) (c : Dev nD) (hi : Inb 512 (off (head B) c)) :
    (rowsOf recv 512 (off (head B) c) hi).view.set = blockRows B c := by
  have e := block_eq B c
  rw [tall_height h] at e
  exact ((View.set_slice_whole _ _).trans (rectAt_set (n := 512) (off (head B) c) hi rfl)).trans e
theorem own_piece (s : Fin 18) (c : Dev nD) (hi : Inb (tallOf s) (off (src s) c)) :
    (rowsOf own (tallOf s) (off (src s) c) hi).view.set = piece (src s) c := by
  refine ((View.set_slice_whole _ _).trans (rectAt_set (n := tallOf s) (off (src s) c) hi rfl)).trans ?_
  show rowSet _ (tallOf s) = rowSet _ (256 * len (src s))
  rw [len_src, tallOf_eq]
  rfl
theorem recv_piece (s : Fin 18) (c : Dev nD) (hi : Inb (tallOf s) (off (src s) c)) :
    (rowsOf recv (tallOf s) (off (src s) c) hi).view.set = piece (src s) c := by
  refine ((View.set_slice_whole _ _).trans (rectAt_set (n := tallOf s) (off (src s) c) hi rfl)).trans ?_
  show rowSet _ (tallOf s) = rowSet _ (256 * len (src s))
  rw [len_src, tallOf_eq]
  rfl
theorem stage_slab {n : ℕ} (h : Fits n) (b : Fin 2) : (slotOf stage h b).view.set = (slotRect h b).set :=
  (View.set_reshape _ _).trans (View.set_slice_whole _ _)
theorem ostage_slab (b : Fin 2) : (slotOf ostage fits512 b).view.set = slot b :=
  (View.set_reshape _ _).trans (View.set_slice_whole _ _)

end Cert.KernelIdeal.AllReduce
-- ==== Proof.StepLocal.lean ====
module

public import proofs.«01_k».proof.Proof.Resources

/-!
# The moves within a device

For each move a device makes alone — fetching a block, casting it, summing a block, copying it out: from what it holds
before the move it runs the move and holds what it should after it.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Wide F) (K : Dev nD × Key → ℕ) {σ : St} (c : Dev nD) (k : Run F) (Q : Post F)

/-- A move is sound: from what the device holds before it, it runs, and the rest may count on what it holds after. -/
def Sound (σ : St) (mv : Move) : Prop :=
  (iprop(recs A K ∗ res A σ c) : sProp 𝕄) ⊢ iprop((res A (σ.after mv) c -∗ Runs c k Q) -∗ Runs c (mv.run c k) Q)

omit [FloatOps F] in
/-- A slot's entry changes only at the slot. -/
theorem slot_other {P : Option (Fin 20) → Fin 2 → sProp 𝕄} (f : Fin 2 → Option (Fin 20)) (b : Fin 2) (v : Option (Fin 20)) :
    ∀ j, j ≠ b → P (Function.update f b v j) j = P (f j) j := fun j hj => by rw [Function.update_of_ne hj]

omit [FloatOps F] in
/-- A load reads the elements of the view it goes through. -/
theorem loads_of {s : Shape} {e : EltTy} (M : Memref sig .tc .vmem s e) (r : Rect s) {S : Finset M.view.ty.Idx}
    (h : (M.access r).set ⊆ S) : M.view.setOn r.toLoadRect.set ⊆ S := by
  rwa [View.set_slice] at h

/-- A device's own copies may be waited for at any time. -/
theorem may_wait_here (n : ℕ) (q : DmaSem sig) (h : role q = none) :
    recs A K ⊢ MayWait (c : Thread nD τ) (.dma q) () (owed c n) :=
  (recs_lev A K).trans (may_wait c n (.dma q) (by unfold lv; dsimp only; rw [h]; exact Nat.zero_le _))

theorem ownR_cast {p : Fin 18} (h : p ∈ σ.cast) : ownR A σ c p = iprop(ownP c fullShare.left (piece p c) (narrow (A c))
    ∗ whenHeld (σ.lent 0 p) (ownP c (shareOf 0) (piece p c) (narrow (A c)))) := if_pos h
theorem ownR_uncast {p : Fin 18} (h : p ∉ σ.cast) : ownR A σ c p = iprop(∃ f, ownP c fullShare (piece p c) f) := if_neg h
theorem recvR_got {p : Fin 18} (h : p ∈ σ.got) : recvR A σ c p = iprop(recvP c fullShare.left (piece p c) (narrow (A (orig p c)))
      ∗ whenHeld (σ.lent 1 p) (recvP c (shareOf 1) (piece p c) (narrow (A (orig p c))))
      ∗ whenHeld (σ.lent 2 p) (recvP c (shareOf 2) (piece p c) (narrow (A (orig p c))))) := if_pos h
theorem recvR_ungot {p : Fin 18} (h : p ∉ σ.got) : recvR A σ c p = iprop(emp) := if_neg h
theorem outR_done {p : Fin 18} (h : p ∈ σ.done) : outR A σ c p = outP c (piece p c) (total A p c) := if_pos h
theorem outR_out {p : Fin 18} (h : p ∉ σ.done) (h' : p ∈ σ.out) : outR A σ c p = iprop(emp) := (if_neg h).trans (if_pos h')
theorem outR_none {p : Fin 18} (h : p ∉ σ.done) (h' : p ∉ σ.out) : outR A σ c p = iprop(∃ f, outP c (piece p c) f) :=
  (if_neg h).trans (if_neg h')

theorem sound_start (b : Fin 2) (B : Fin 20) (h : σ.Ok (.start b B)) : Sound A K c k Q σ (.start b B) := by
  have h0 : σ.inn b = none := h
  unfold Sound res
  iintro ⟨#HR, Hown, Hrecv, Hout, Hsend, Hgot, Hin, Hos, Ho⟩ Hk
  ihave Hin := (bigSep_univ_update b (slot_other (P := fun v j => inR A v c j) σ.inn b (some B))) $$ Hin
  rw [h0, Function.update_self, inR_none, inR_some]
  icases Hin with ⟨⟨Hv, ⟨%f, Hs⟩, HA⟩, Hback⟩
  ihave HA := (pointsTo_split_subset (Finset.subset_univ (rowsIn B c))).1 $$ HA
  icases HA with ⟨HA, Hrest⟩
  iapply (Transfers.wp_dmaLocal EC 𝒱₀ (c : Thread nD τ) none (src := rowsOf argM (height B) (off (head B) c) (inbB B c))
    (dst := slotOf stage (fits B) b) (Sd := slot b) (fs := A c) () ((slotOf stage (fits B) b).view.dmaCredit) rfl
    (View.dmaCredit_pos _ (fits B).pos) ((stage_slab (fits B) b).trans_subset (slot_sub (fits B) b))) $$ [HA Hs Hv]
  · isplitl [HA]; · iexact HA
    isplitl [Hs]; · iexact Hs
    iexact Hv
  iintro HF
  iapply Hk
  isplitl [Hown]; · iexact Hown
  isplitl [Hrecv]; · iexact Hrecv
  isplitl [Hout]; · iexact Hout
  isplitl [Hsend]; · iexact Hsend
  isplitl [Hgot]; · iexact Hgot
  isplitl [HF Hrest Hback]
  · iapply Hback
    isplitl [HF]
    · iapply (Transfers.Flight_mono EC (c : Thread nD τ) (D := iprop(stageP c (slot b) (fetched A b B c f) ∗ argP c (half b) (rowsIn B c) (A c)))
        (by
          unfold fetch
          iintro ⟨Hs, HA⟩
          isplitl [Hs]
          · iexists f; iexact Hs
          · iexact HA)) $$ HF
    · iexact Hrest
  isplitl [Hos]; · iexact Hos
  iexact Ho

/-- A cast changes no piece of `own` but its own. -/
theorem cast_other (b : Fin 2) (B : Fin 20) (p : Fin 18) (hp : p ∉ parts B) : ownR A (σ.after (.cast b B)) c p = ownR A σ c p := by
  by_cases h : p ∈ σ.cast
  · rw [ownR_cast A c h, ownR_cast A c (Finset.mem_union_left _ h)]; rfl
  · rw [ownR_uncast A c h, ownR_uncast A c (fun h' => (Finset.mem_union.mp h').elim h hp)]

theorem sound_cast (b : Fin 2) (B : Fin 20) (h : σ.Ok (.cast b B)) : Sound A K c k Q σ (.cast b B) := by
  obtain ⟨h0, hp⟩ := h
  have hrows := own_rows B c
  have hcast : (bigSep (parts B) fun p => ownP c fullShare (piece p c) (narrow (A c))) ⊢ bigSep (parts B) (ownR A (σ.after (.cast b B)) c) := by
    refine bigSep_mono fun p h => ?_
    rw [ownR_cast A c (Finset.mem_union_right _ h), show (σ.after (.cast b B)).lent 0 p = false from (hp p h).2]
    exact (pointsTo_share (PosShare.mem_left_op_right fullShare)).1
  unfold Sound res
  iintro ⟨#HR, Hown, Hrecv, Hout, Hsend, Hgot, Hin, Hos, ⟨%W, Ho⟩⟩ Hk
  ihave Hin := (bigSep_univ_update b (slot_other (P := fun v j => inR A v c j) σ.inn b none)) $$ Hin
  rw [h0, Function.update_self, inR_none, inR_some]
  icases Hin with ⟨⟨HF, Hrest⟩, Hback⟩
  ihave HM := (may_wait_here A K c σ.n (inS b) (role_in b)) $$ HR
  iapply (Transfers.wp_waitLocalO EC 𝒱₀ (c : Thread nD τ) none () (N := (slotOf stage (fits B) b).view.dmaCredit) rfl (D := fetch A b B c)
    (O := owed c σ.n) (W := W)) $$ [HF Ho HM]
  · isplitl [HF]; · iexact HF
    isplitl [Ho] <;> iassumption
  unfold fetch
  iintro ⟨⟨⟨%f, Hs⟩, HA⟩, Hv, Ho⟩
  iapply (wp_load 𝒱₀ (c : Thread nD τ) none Set.univ (m := stage) (r := (slotRect (fits B) b).toLoadRect) (S := slot b) (q := fullShare)
    (f := fetched A b B c f) (loads_of stage _ ((View.set_slice_whole _ _).trans_subset (slot_sub (fits B) b)))) $$ Hs
  iintro Hs
  ihave Hown := (swap (parts B) (Φ := ownR A σ c) (Ψ := ownR A (σ.after (.cast b B)) c) (cast_other A c b B)) $$ Hown
  rw [bigSep_congr fun p h => ownR_uncast A c (hp p h).1]
  icases Hown with ⟨Hp, Hownback⟩
  ihave Hp := (gather (ℓ := (c : Thread nD τ).loc cc0_scratch0) (narrow (A c)) fullShare (parts B) (fun p => piece p c) (parts_disjoint _ c)) $$ Hp
  icases Hp with ⟨%g, Hp⟩
  iapply (wp_load 𝒱₀ (c : Thread nD τ) none Set.univ (m := own) (r := (rectAt (height B) (off (head B) c) (inbB B c)).toLoadRect)
    (S := blockRows B c) (q := fullShare) (f := g) (loads_of own _ hrows.subset)) $$ Hp
  iintro Hp
  iapply (wp_store 𝒱₀ (c : Thread nD τ) none Set.univ (m := own) (r := rectAt (height B) (off (head B) c) (inbB B c))
    (Mk := Finset.univ) (S := blockRows B c) (f := g) hrows.subset) $$ Hp
  iintro Hp
  iapply Hk
  isplitl [Hp Hownback]
  · iapply Hownback
    ihave Hp := (Entails.of_eq (pointsTo_congr (g := narrow (A c))
      (fun i hi => cast_leaves (fits B) b (off (head B) c) (inbB B c) (A c) f g i (hrows ▸ hi)))) $$ Hp
    ihave Hp := (scatter (ℓ := (c : Thread nD τ).loc cc0_scratch0) (narrow (A c)) fullShare (parts B) (fun p => piece p c)
      (parts_disjoint _ c)) $$ Hp
    iapply hcast $$ Hp
  isplitl [Hrecv]; · iexact Hrecv
  isplitl [Hout]; · iexact Hout
  isplitl [Hsend]; · iexact Hsend
  isplitl [Hgot]; · iexact Hgot
  isplitl [Hs HA Hrest Hv Hback]
  · iapply Hback
    isplitl [Hv]; · iexact Hv
    isplitl [Hs]
    · iexists _; iexact Hs
    iapply (pointsTo_split_subset (Finset.subset_univ (rowsIn B c))).2
    isplitl [HA] <;> iassumption
  isplitl [Hos]; · iexact Hos
  iexists _; iexact Ho

/-- Beginning a block of the result changes no piece but its own, -/
theorem emit_other (b : Fin 2) (B : Fin 20) (p : Fin 18) (hp : p ∉ parts B) : outR A (σ.after (.emit b B)) c p = outR A σ c p := by
  by_cases h : p ∈ σ.done
  · rw [outR_done A c h]; exact outR_done A c h
  · by_cases h' : p ∈ σ.out
    · rw [outR_out A c h h']; exact outR_out A c h (Finset.mem_union_left _ h')
    · rw [outR_none A c h h']; exact outR_none A c h (fun h'' => (Finset.mem_union.mp h'').elim h' hp)
/-- nor does finishing one. -/
theorem out_other (b : Fin 2) (B : Fin 20) (p : Fin 18) (hp : p ∉ parts B) : outR A (σ.after (.out b B)) c p = outR A σ c p := by
  by_cases h : p ∈ σ.done
  · rw [outR_done A c h]; exact outR_done A c (Finset.mem_union_left _ h)
  · have hn : p ∉ (σ.after (.out b B)).done := fun h'' => (Finset.mem_union.mp h'').elim h hp
    by_cases h' : p ∈ σ.out
    · rw [outR_out A c h h']; exact outR_out A c hn h'
    · rw [outR_none A c h h']; exact outR_none A c hn h'

theorem sound_emit (b : Fin 2) (B : Fin 20) (h : σ.Ok (.emit b B)) : Sound A K c k Q σ (.emit b B) := by
  obtain ⟨h0, ht, hp⟩ := h
  have hi : Inb 512 (off (head B) c) := inbOff le_rfl _ c
  have hown := own_rows_tall ht c hi
  have hrecv := recv_rows_tall ht c hi
  have hout := out_rows ht c hi
  unfold Sound res
  iintro ⟨#HR, Hown, Hrecv, Hout, Hsend, Hgot, Hin, Hos, Ho⟩ Hk
  ihave Hown := (peek (ℓ := (c : Thread nD τ).loc cc0_scratch0) (narrow (A c)) fullShare.left (parts B) (fun p => piece p c) (parts_disjoint _ c)
    (fun p h => ownR_cast A c (hp p h).1)) $$ Hown
  icases Hown with ⟨Hx, Hown⟩
  ihave Hrecv := (peek (ℓ := (c : Thread nD τ).loc cc0_scratch1) (narrow (A (orig (head B) c))) fullShare.left (parts B) (fun p => piece p c) (parts_disjoint _ c)
    (fun p h => (recvR_got A c (hp p h).2.1).trans (by rw [orig_parts B c p h]))) $$ Hrecv
  icases Hrecv with ⟨Hy, Hrecv⟩
  iapply (wp_load 𝒱₀ (c : Thread nD τ) none Set.univ (m := own) (r := (rectAt 512 (off (head B) c) hi).toLoadRect)
    (S := blockRows B c) (q := fullShare.left) (f := narrow (A c)) (loads_of own _ hown.subset)) $$ Hx
  iintro Hx
  ihave Hown := Hown $$ Hx
  iapply (wp_load 𝒱₀ (c : Thread nD τ) none Set.univ (m := recv) (r := (rectAt 512 (off (head B) c) hi).toLoadRect)
    (S := blockRows B c) (q := fullShare.left) (f := narrow (A (orig (head B) c))) (loads_of recv _ hrecv.subset)) $$ Hy
  iintro Hy
  ihave Hrecv := Hrecv $$ Hy
  ihave Hos := (bigSep_univ_update b (slot_other (P := fun v j => outSR A v c j) σ.outn b (some B))) $$ Hos
  rw [h0, Function.update_self, outSR_none, outSR_some]
  icases Hos with ⟨⟨Hv, ⟨%f, Hs⟩⟩, Hback⟩
  iapply (wp_load 𝒱₀ (c : Thread nD τ) none Set.univ (m := ostage) (r := (slotRect fits512 b).toLoadRect) (S := slot b) (q := fullShare)
    (f := f) (loads_of ostage _ (View.set_slice_whole _ _).subset)) $$ Hs
  iintro Hs
  iapply (wp_store 𝒱₀ (c : Thread nD τ) none Set.univ (m := ostage) (r := slotRect fits512 b)
    (Mk := Finset.univ) (S := slot b) (f := f) (View.set_slice_whole _ _).subset) $$ Hs
  iintro Hs
  ihave Hout := (swap (parts B) (Φ := outR A σ c) (Ψ := outR A (σ.after (.emit b B)) c) (emit_other A c b B)) $$ Hout
  rw [bigSep_congr fun p h => outR_none A c (hp p h).2.2.2 (hp p h).2.2.1]
  icases Hout with ⟨Hp, Houtback⟩
  ihave Hp := (gather (ℓ := (c : Thread nD τ).loc main_v1) (narrow (A c)) fullShare (parts B) (fun p => piece p c) (parts_disjoint _ c)) $$ Hp
  icases Hp with ⟨%g, Hp⟩
  rw [← ostage_slab b]
  iapply (Transfers.wp_dmaLocal EC 𝒱₀ (c : Thread nD τ) none (src := slotOf ostage fits512 b)
    (dst := rowsOf outM 512 (off (head B) c) hi) (Sd := blockRows B c) (fd := g) () outAmt rfl
    (View.dmaCredit_pos _ fits512.pos) hout.subset) $$ [Hs Hp Hv]
  · isplitl [Hs]; · iexact Hs
    isplitl [Hp]; · iexact Hp
    iexact Hv
  iintro HF
  iapply Hk
  isplitl [Hown]; · iexact Hown
  isplitl [Hrecv]; · iexact Hrecv
  isplitl [Houtback]
  · iapply Houtback
    have e : bigSep (parts B) (outR A (σ.after (.emit b B)) c) = iprop(emp) :=
      (bigSep_congr fun p h => outR_out A (σ := σ.after (.emit b B)) c (hp p h).2.2.2 (Finset.mem_union_right _ h)).trans (bigSep_emp_const _)
    rw [e]
    iempintro
  isplitl [Hsend]; · iexact Hsend
  isplitl [Hgot]; · iexact Hgot
  isplitl [Hin]; · iexact Hin
  isplitl [HF Hback]
  · iapply Hback
    iapply (Transfers.Flight_mono EC (c : Thread nD τ) ?_) $$ HF
    unfold deliver
    iintro ⟨Hp, Hs⟩
    isplitl [Hp]
    · ihave Hp := (Entails.of_eq (pointsTo_congr (g := addf (narrow (A c)) (narrow (A (orig (head B) c))))
        (fun i hi' => emit_leaves b (off (head B) c) hi f g _ _ i (hout ▸ hi')))) $$ Hp
      ihave Hp := (scatter (ℓ := (c : Thread nD τ).loc main_v1) (addf (narrow (A c)) (narrow (A (orig (head B) c)))) fullShare (parts B)
        (fun p => piece p c) (parts_disjoint _ c)) $$ Hp
      rw [bigSep_congr fun p h => show outP c (piece p c) (total A p c) = _ by unfold total; rw [orig_parts B c p h]]
      iexact Hp
    · iexists _; rw [← ostage_slab b]; iexact Hs
  iexact Ho

theorem sound_out (b : Fin 2) (B : Fin 20) (h : σ.Ok (.out b B)) : Sound A K c k Q σ (.out b B) := by
  obtain ⟨h0, ht, hp⟩ := h
  unfold Sound res
  iintro ⟨#HR, Hown, Hrecv, Hout, Hsend, Hgot, Hin, Hos, ⟨%W, Ho⟩⟩ Hk
  ihave Hos := (bigSep_univ_update b (slot_other (P := fun v j => outSR A v c j) σ.outn b none)) $$ Hos
  rw [h0, Function.update_self, outSR_none, outSR_some]
  icases Hos with ⟨HF, Hback⟩
  ihave HM := (may_wait_here A K c σ.n (outS b) (role_out b)) $$ HR
  iapply (Transfers.wp_waitLocalO EC 𝒱₀ (c : Thread nD τ) none (dstw := rowsOf outM 512 (off (head B) c) (inbOff le_rfl _ c)) () (N := outAmt) rfl (D := deliver A b B c)
    (O := owed c σ.n) (W := W)) $$ [HF Ho HM]
  · isplitl [HF]; · iexact HF
    isplitl [Ho] <;> iassumption
  unfold deliver
  iintro ⟨⟨Hp, Hs⟩, Hv, Ho⟩
  ihave Hout := (swap (parts B) (Φ := outR A σ c) (Ψ := outR A (σ.after (.out b B)) c) (out_other A c b B)) $$ Hout
  icases Hout with ⟨-, Houtback⟩
  iapply Hk
  isplitl [Hown]; · iexact Hown
  isplitl [Hrecv]; · iexact Hrecv
  isplitl [Hp Houtback]
  · iapply Houtback
    rw [bigSep_congr fun p h => outR_done A c (σ := σ.after (.out b B)) (Finset.mem_union_right _ h)]
    iexact Hp
  isplitl [Hsend]; · iexact Hsend
  isplitl [Hgot]; · iexact Hgot
  isplitl [Hin]; · iexact Hin
  isplitl [Hs Hv Hback]
  · iapply Hback
    isplitl [Hv] <;> iassumption
  iexists _; iexact Ho

end Cert.KernelIdeal.AllReduce
-- ==== Proof.StepRemote.lean ====
module

public import proofs.«01_k».proof.Proof.StepLocal

/-!
# The moves between devices

The same for the moves that send to another device or wait for one: a send lends a share of what it reads and pays into
the receiver's semaphore, a landing hands the piece over, the end of a send brings back what was lent.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Wide F) (K : Dev nD × Key → ℕ) {σ : St} (c : Dev nD) (k : Run F) (Q : Post F)

/-! ## Lending -/

omit [FloatOps F] in
theorem whenHeld_true (P : sProp 𝕄) : whenHeld true P = iprop(emp) := if_pos rfl
omit [FloatOps F] in
theorem whenHeld_false (P : sProp 𝕄) : whenHeld false P = P := if_neg (by decide)

/-- `σ'` is `σ` but that send `s` is also reading its piece. -/
structure Lends (s : Fin 18) (σ σ' : St) : Prop where
  cast : ∀ p, p ∈ σ'.cast ↔ p ∈ σ.cast
  got : ∀ p, p ∈ σ'.got ↔ p ∈ σ.got
  other : ∀ k p, ¬ (dir s = k ∧ src s = p) → σ'.lent k p = σ.lent k p
  here : σ'.lent (dir s) (src s) = true
  free : σ.lent (dir s) (src s) = false
  ready : if dir s = 0 then src s ∈ σ.cast else src s ∈ σ.got

variable {σ' : St} {s : Fin 18}

theorem Lends.own_same (h : Lends s σ σ') (p : Fin 18) (hp : ¬ (dir s = 0 ∧ src s = p)) : ownR A σ' c p = ownR A σ c p := by
  by_cases hc : p ∈ σ.cast
  · rw [ownR_cast A c hc, ownR_cast A c ((h.cast p).mpr hc), h.other 0 p hp]
  · rw [ownR_uncast A c hc, ownR_uncast A c (fun hc' => hc ((h.cast p).mp hc'))]
theorem Lends.recv_same (h : Lends s σ σ') (p : Fin 18) (hp : ¬ (dir s ≠ 0 ∧ src s = p)) : recvR A σ' c p = recvR A σ c p := by
  have h1 : ¬ (dir s = 1 ∧ src s = p) := fun h' => hp ⟨by rw [h'.1]; decide, h'.2⟩
  have h2 : ¬ (dir s = 2 ∧ src s = p) := fun h' => hp ⟨by rw [h'.1]; decide, h'.2⟩
  by_cases hc : p ∈ σ.got
  · rw [recvR_got A c hc, recvR_got A c ((h.got p).mpr hc), h.other 1 p h1, h.other 2 p h2]
  · rw [recvR_ungot A c hc, recvR_ungot A c (fun hc' => hc ((h.got p).mp hc'))]

/-- Of the piece of `own` it reads, the part lent; -/
theorem Lends.own_here (h : Lends s σ σ') (hd : dir s = 0) : ownR A σ c (src s) ⊣⊢ iprop(lends A s c ∗ ownR A σ' c (src s)) := by
  have hc : src s ∈ σ.cast := by have := h.ready; rwa [if_pos hd] at this
  have hf := h.free
  have ht := h.here
  rw [hd] at hf ht
  rw [ownR_cast A c hc, ownR_cast A c ((h.cast _).mpr hc), hf, ht, whenHeld_true, whenHeld_false]
  unfold lends
  rw [if_pos hd, hd]
  constructor
  · iintro ⟨H1, H2⟩
    isplitl [H2]; · iexact H2
    isplitl [H1]; · iexact H1
    iempintro
  · iintro ⟨H2, H1, -⟩
    isplitl [H1] <;> iassumption

/-- of the piece of `recv`. -/
theorem Lends.recv_here (h : Lends s σ σ') (hd : dir s ≠ 0) : recvR A σ c (src s) ⊣⊢ iprop(lends A s c ∗ recvR A σ' c (src s)) := by
  have hc : src s ∈ σ.got := by have := h.ready; rwa [if_neg hd] at this
  have hf := h.free
  have ht := h.here
  have h12 : dir s = 1 ∨ dir s = 2 := by revert hd; generalize dir s = d; revert d; decide
  rw [recvR_got A c hc, recvR_got A c ((h.got _).mpr hc)]
  unfold lends
  rw [if_neg hd]
  rcases h12 with hd | hd
  · rw [h.other 2 (src s) (fun h' => by rw [hd] at h'; exact absurd h'.1 (by decide))]
    rw [hd] at hf ht
    rw [hf, ht, whenHeld_true, whenHeld_false, hd]
    constructor
    · iintro ⟨H1, H2, H3⟩
      isplitl [H2]; · iexact H2
      isplitl [H1]; · iexact H1
      isplitr
      · iempintro
      · iexact H3
    · iintro ⟨H2, H1, -, H3⟩
      isplitl [H1]; · iexact H1
      isplitl [H2] <;> iassumption
  · rw [h.other 1 (src s) (fun h' => by rw [hd] at h'; exact absurd h'.1 (by decide))]
    rw [hd] at hf ht
    rw [hf, ht, whenHeld_true, whenHeld_false, hd]
    constructor
    · iintro ⟨H1, H2, H3⟩
      isplitl [H3]; · iexact H3
      isplitl [H1]; · iexact H1
      isplitl [H2]; · iexact H2
      iempintro
    · iintro ⟨H3, H1, H2, -⟩
      isplitl [H1]; · iexact H1
      isplitl [H2] <;> iassumption

/-- To lend is to give the part lent up; -/
theorem Lends.give (h : Lends s σ σ') : iprop((bigSep Finset.univ (ownR A σ c)) ∗ bigSep Finset.univ (recvR A σ c))
    ⊢ iprop(lends A s c ∗ (bigSep Finset.univ (ownR A σ' c)) ∗ bigSep Finset.univ (recvR A σ' c)) := by
  by_cases hd : dir s = 0
  · have e : recvR A σ' c = recvR A σ c := funext fun p => h.recv_same A c p fun h' => h'.1 hd
    rw [e]
    iintro ⟨Ho, Hr⟩
    ihave Ho := (bigSep_univ_update (Ψ := ownR A σ' c) (src s) fun p hp => h.own_same A c p fun h' => hp h'.2.symm) $$ Ho
    icases Ho with ⟨Ho, Hback⟩
    ihave Ho := (h.own_here A c hd).1 $$ Ho
    icases Ho with ⟨Hl, Ho⟩
    isplitl [Hl]; · iexact Hl
    isplitr [Hr]
    · iapply Hback $$ Ho
    · iexact Hr
  · have e : ownR A σ' c = ownR A σ c := funext fun p => h.own_same A c p fun h' => hd h'.1
    rw [e]
    iintro ⟨Ho, Hr⟩
    ihave Hr := (bigSep_univ_update (Ψ := recvR A σ' c) (src s) fun p hp => h.recv_same A c p fun h' => hp h'.2.symm) $$ Hr
    icases Hr with ⟨Hr, Hback⟩
    ihave Hr := (h.recv_here A c hd).1 $$ Hr
    icases Hr with ⟨Hl, Hr⟩
    isplitl [Hl]; · iexact Hl
    isplitl [Ho]; · iexact Ho
    iapply Hback $$ Hr

/-- with it back all is as before. -/
theorem Lends.take (h : Lends s σ σ') : iprop(lends A s c ∗ (bigSep Finset.univ (ownR A σ' c)) ∗ bigSep Finset.univ (recvR A σ' c))
    ⊢ iprop((bigSep Finset.univ (ownR A σ c)) ∗ bigSep Finset.univ (recvR A σ c)) := by
  by_cases hd : dir s = 0
  · have e : recvR A σ' c = recvR A σ c := funext fun p => h.recv_same A c p fun h' => h'.1 hd
    rw [e]
    iintro ⟨Hl, Ho, Hr⟩
    ihave Ho := (bigSep_univ_update (Ψ := ownR A σ c) (src s) fun p hp => (h.own_same A c p fun h' => hp h'.2.symm).symm) $$ Ho
    icases Ho with ⟨Ho, Hback⟩
    isplitr [Hr]
    · iapply Hback
      iapply (h.own_here A c hd).2
      isplitl [Hl] <;> iassumption
    · iexact Hr
  · have e : ownR A σ' c = ownR A σ c := funext fun p => h.own_same A c p fun h' => hd h'.1
    rw [e]
    iintro ⟨Hl, Ho, Hr⟩
    ihave Hr := (bigSep_univ_update (Ψ := recvR A σ c) (src s) fun p hp => (h.recv_same A c p fun h' => hp h'.2.symm).symm) $$ Hr
    icases Hr with ⟨Hr, Hback⟩
    isplitl [Ho]; · iexact Ho
    iapply Hback
    iapply (h.recv_here A c hd).2
    isplitl [Hl] <;> iassumption

theorem lends_send (h : σ.Ok (.send s)) : Lends s σ (σ.after (.send s)) where
  cast _ := Iff.rfl
  got _ := Iff.rfl
  other _ _ := St.lent_send_other h
  here := St.lent_send_self h
  free := h.2.2.2
  ready := h.2.2.1
theorem lends_back (h : σ.Ok (.back s)) : Lends s (σ.after (.back s)) σ where
  cast _ := Iff.rfl
  got _ := Iff.rfl
  other _ _ hkp := (St.lent_back_other hkp).symm
  here := St.lent_before_back h
  free := St.lent_back_self
  ready := h.2.2

/-! ## Sends -/

theorem sendR_before (h : ¬ s.val < σ.n) : sendR σ c s = iprop(atPos ER (sendCell s c) 0 ∅ 0 ∗ dutyTok ER (sendCell s c) 0 0
    ∗ dutyTok ER (recvCell s (peer s c)) 0 0 ∗ ∃ f : Narrow F, recvP (peer s c) fullShare (piece s (peer s c)) f) := if_neg h
theorem sendR_made (h : s.val < σ.n) (h' : s ∉ σ.back) : (sendR σ c s : sProp 𝕄)
    = iprop(atPos ER (sendCell s c) 0 ∅ 0 ∗ cred (tallyAt (sendCell s c) () (amt s))) := (if_pos h).trans (if_neg h')
theorem sendR_back (h : s.val < σ.n) (h' : s ∈ σ.back) : (sendR σ c s : sProp 𝕄) = atPos ER (sendCell s c) 1 ∅ 0 := (if_pos h).trans (if_pos h')

/-- A send from a buffer `M` whose rows hold what is to land, at a share that makes up what the send is lent. -/
theorem send_from (M : Memref sig .tc .vmem S8192x1024 .bf16) (hM : M.IsWhole) (s : Fin 18) (hi : Inb (tallOf s) (off (src s) c))
    (hw : (rectAt (tallOf s) (off (src s) c) hi).WholeWords (EltTy.packing .bf16)) (q : PosShare TreeShare) (f : M.view.ty.Contents (Elt F))
    (hf : (rowsOf M (tallOf s) (off (src s) c) hi).view.read (Elt F) f
      = (rowsOf recv (tallOf s) (off (src s) c) hi).view.read (Elt F) (narrow (A (orig s (peer s c)))))
    (hl : lends A s c = ((rowsOf M (tallOf s) (off (src s) c) hi).view.loc (c : Thread nD τ) ↦[(rowsOf M (tallOf s) (off (src s) c) hi).view.set]{q} f))
    (W : Waits sig Unit) :
    iprop(recs A K ∗ lends A s c ∗ (∃ f : Narrow F, recvP (peer s c) fullShare (piece s (peer s c)) f) ∗ owes (c : Thread nD τ) (owed c s.val) W
        ∗ dutyTok ER (sendCell s c) 0 0 ∗ dutyTok ER (recvCell s (peer s c)) 0 0)
      ⊢ iprop(((cred (tallyAt (sendCell s c) () (amt s)) ∗ owes (c : Thread nD τ) (owed c (s.val + 1)) W) -∗ Runs c k Q)
        -∗ Runs c (sendRows M hM (peer s c) (sendSem s) (recvSem s) (off (src s) c) hi hw k) Q) := by
  have hset : (rowsOf recv (tallOf s) (off (src s) c) hi).view.set = piece s (peer s c) := (recv_piece s c hi).trans (piece_peer s c).symm
  have hd : recvP (peer s c) fullShare (piece s (peer s c)) = fun g => recvP (F := F) (peer s c) fullShare
      (rowsOf recv (tallOf s) (off (src s) c) hi).view.set g := by rw [hset]
  iintro ⟨#HR, Hl, ⟨%g, Hd⟩, Ho, Ht, Ht'⟩ Hk
  ihave Hl := (Entails.of_eq hl) $$ Hl
  ihave Hd := (Entails.of_eq (congrFun hd g)) $$ Hd
  ihave HI := (recs_inv A K (c, some (false, s))) $$ HR
  ihave HI' := (recs_inv A K (peer s c, some (true, s))) $$ HR
  ihave Hr := (recs_reached A K (c, some (false, s))) $$ HR
  ihave Hr' := (recs_reached A K (peer s c, some (true, s))) $$ HR
  iapply (Rounds.wp_send_pointsTo 𝒱₀ ER (plot A) (c : Thread nD τ) none (c' := (peer s c : Thread nD τ))
    (src := rowsOf M (tallOf s) (off (src s) c) hi) (dst := rowsOf recv (tallOf s) (off (src s) c) hi)
    (sS := .dma (sendSem s)) (sem := .dma (recvSem s)) (q := q) (fs := f) (fd := g)
    (κ₁ := K (c, some (false, s))) (κ₂ := K (peer s c, some (true, s)))
    (r₁ := 0) (r₂ := 0) (d₁ := 0) (d₂ := 0) (by rw [duties_send]; exact Finset.mem_singleton_self _)
    (by rw [duties_recv]; exact Finset.mem_singleton_self _) () () (amt s) rfl (price_send c s) (price_recv (peer s c) s)
    (owed c (s.val + 1)) (owed_step c s) (W := W)
    (by rw [← hl]; exact Entails.of_eq (handed_send A c s 0).symm)
    (by
      refine (Entails.of_eq ?_).trans (Entails.of_eq (handed_recv A (peer s c) s 0).symm)
      unfold landed
      rw [← hset]
      exact pointsTo_congr (write_read (rowsOf recv (tallOf s) (off (src s) c) hi).view g (narrow (A (orig s (peer s c)))) _ hf))) $$ [Hl Hd Ho Ht Ht']
  · isplitr; · iexact HI
    isplitr; · iexact HI'
    isplitl [Hl]; · iexact Hl
    isplitl [Hd]; · iexact Hd
    isplitl [Ho]; · iexact Ho
    isplitl [Ht]; · iexact Ht
    isplitr; · iexact Hr
    isplitl [Ht']; · iexact Ht'
    iexact Hr'
  iexact Hk

theorem sent_own (h : dir s = 0) : sent s = own := by unfold sent; rw [h]; rfl
theorem sent_recv (h : dir s ≠ 0) : sent s = recv := by
  have h12 : dir s = 1 ∨ dir s = 2 := by revert h; generalize dir s = d; revert d; decide
  unfold sent
  rcases h12 with h | h <;> (rw [h]; rfl)

/-- Whatever buffer a send is from, what it is lent is there and what it sends is what its receiver is to hold. -/
theorem send_sent (s : Fin 18) (M : Memref sig .tc .vmem S8192x1024 .bf16) (hM : M.IsWhole) (hs : sent s = M) (hi : Inb (tallOf s) (off (src s) c))
    (hw : (rectAt (tallOf s) (off (src s) c) hi).WholeWords (EltTy.packing .bf16)) (W : Waits sig Unit) :
    iprop(recs A K ∗ lends A s c ∗ (∃ f : Narrow F, recvP (peer s c) fullShare (piece s (peer s c)) f) ∗ owes (c : Thread nD τ) (owed c s.val) W
        ∗ dutyTok ER (sendCell s c) 0 0 ∗ dutyTok ER (recvCell s (peer s c)) 0 0)
      ⊢ iprop(((cred (tallyAt (sendCell s c) () (amt s)) ∗ owes (c : Thread nD τ) (owed c (s.val + 1)) W) -∗ Runs c k Q)
        -∗ Runs c (sendRows M hM (peer s c) (sendSem s) (recvSem s) (off (src s) c) hi hw k) Q) := by
  by_cases hd : dir s = 0
  · rw [sent_own hd] at hs
    subst hs
    refine send_from A K c k Q own hM s hi hw (shareOf (dir s)) (narrow (A c)) (by rw [orig_own s c hd]; rfl) ?_ W
    unfold lends
    rw [if_pos hd, ← own_piece s c hi]
  · rw [sent_recv hd] at hs
    subst hs
    refine send_from A K c k Q recv hM s hi hw (shareOf (dir s)) (narrow (A (orig (src s) c))) (by rw [orig_recv s c hd]) ?_ W
    unfold lends
    rw [if_neg hd, ← recv_piece s c hi]

theorem sound_send (s : Fin 18) (h : σ.Ok (.send s)) : Sound A K c k Q σ (.send s) := by
  have hn : s.val = σ.n := h.1
  have hlt : s.val < (σ.after (.send s)).n := by show s.val < σ.n + 1; omega
  have ho : ∀ j, j ≠ s → sendR (σ.after (.send s)) c j = (sendR σ c j : sProp 𝕄) := by
    intro j hj
    have hne : j.val ≠ s.val := fun e => hj (Fin.ext e)
    by_cases hjn : j.val < σ.n
    · have hjn' : j.val < (σ.after (.send s)).n := by show j.val < σ.n + 1; omega
      by_cases hb : j ∈ σ.back
      · rw [sendR_back c hjn hb, sendR_back c hjn' hb]
      · rw [sendR_made c hjn hb, sendR_made c hjn' hb]
    · rw [sendR_before c hjn, sendR_before c (by show ¬ j.val < σ.n + 1; omega)]
  unfold Sound res
  iintro ⟨#HR, Hown, Hrecv, Hout, Hsend, Hgot, Hin, Hos, ⟨%W, Ho⟩⟩ Hk
  ihave Hl := ((lends_send h).give A c) $$ [Hown Hrecv]
  · isplitl [Hown] <;> iassumption
  icases Hl with ⟨Hl, Hown, Hrecv⟩
  ihave Hsend := (bigSep_univ_update (Ψ := sendR (σ.after (.send s)) c) s ho) $$ Hsend
  rw [sendR_before c (by omega), sendR_made c hlt h.2.1, ← hn]
  icases Hsend with ⟨⟨Hat, Ht, Ht', Hd⟩, Hback⟩
  iapply (send_sent A K c k Q s (sent s) (sent_whole s) rfl (inbOff (tallOf_le s) _ c) (words (tallOf_le s) (tallOf_dvd s) _ c) W) $$ [Hl Hd Ho Ht Ht']
  · isplitr; · iexact HR
    isplitl [Hl]; · iexact Hl
    isplitl [Hd]; · iexact Hd
    isplitl [Ho]; · iexact Ho
    isplitl [Ht] <;> iassumption
  iintro ⟨Hc, Ho⟩
  iapply Hk
  isplitl [Hown]; · iexact Hown
  isplitl [Hrecv]; · iexact Hrecv
  isplitl [Hout]; · iexact Hout
  isplitl [Hat Hc Hback]
  · iapply Hback
    isplitl [Hat] <;> iassumption
  isplitl [Hgot]; · iexact Hgot
  isplitl [Hin]; · iexact Hin
  isplitl [Hos]; · iexact Hos
  iexists W
  have e : (σ.after (.send s)).n = s.val + 1 := congrArg (· + 1) hn.symm
  rw [e]
  iexact Ho

/-! ## Waits -/

theorem amt_sent (s : Fin 18) (o : Fin 2 → ℕ) (hi : Inb (tallOf s) o) : (rowsOf (sent s) (tallOf s) o hi).view.dmaCredit = amt s := by
  by_cases h : dir s = 0
  · rw [sent_own h]; exact amt_own s o hi
  · rw [sent_recv h]; exact amt_recv s o hi

/-- A wait for the one transfer into a semaphore devices share brings what it hands over. -/
theorem wait_shared (x : Key) (q : DmaSem sig) (hx : cellOfKey (c, x) = ((c : Thread nD τ), .dma q)) (N : ℕ) (P : sProp 𝕄)
    (hN : (plot A).expect ((c : Thread nD τ), .dma q) 0 = N)
    (hP : bigSep ((plot A).duties ((c : Thread nD τ), .dma q) 0 \ ∅) (fun j => (plot A).payload ((c : Thread nD τ), .dma q) 0 j) = P)
    {n m : ℕ} {B B' : Memref sig .tc .vmem S8192x1024 .bf16} (hB : B.IsWhole) (hB' : B'.IsWhole) (o : Fin 2 → ℕ) (hi : Inb n o)
    (hw : (rectAt n o hi).WholeWords (EltTy.packing .bf16)) (hc : (rowsOf B' n o hi).view.dmaCredit = N) (W : Waits sig Unit)
    (hm : lv ((c : Thread nD τ), .dma q) () ≤ 1 + m) :
    iprop(recs A K ∗ atPos ER ((c : Thread nD τ), .dma q) 0 ∅ 0 ∗ cred (tallyAt ((c : Thread nD τ), .dma q) () N) ∗ owes (c : Thread nD τ) (owed c m) W)
      ⊢ iprop(((P ∗ atPos ER ((c : Thread nD τ), .dma q) 1 ∅ 0 ∗ ∃ W, owes (c : Thread nD τ) (owed c m) W) -∗ Runs c k Q)
        -∗ Runs c (waitRows B B' hB hB' q o hi hw k) Q) := by
  subst hP
  have hinv := recs_inv A K (c, x)
  rw [hx] at hinv
  iintro ⟨#HR, Hat, Hc, Ho⟩ Hk
  ihave HI := hinv $$ HR
  ihave HM := ((recs_lev A K).trans (may_wait c m (.dma q) hm)) $$ HR
  iapply (Rounds.wp_wait_rest_token 𝒱₀ ER (plot A) (c : Thread nD τ) none (κ := K (c, x))
    (wpE_waitDma2_eq 𝒱₀ (c : Thread nD τ) none Set.univ) (Set.mem_univ _) () (O := owed c m) (W := W) (R := 0) (m := 0) (T := ∅)
    (by rw [Nat.zero_add, hN]; exact hc)) $$ [Hat Hc Ho HM]
  · isplitr; · iexact HI
    isplitl [Hc]; · rw [hc]; iexact Hc
    isplitl [Ho]; · iexact Ho
    isplitl [HM]; · iexact HM
    iexact Hat
  iintro ⟨Ho, Hat, -, HP⟩
  iapply Hk
  isplitl [HP]; · iexact HP
  isplitl [Hat]; · iexact Hat
  iexists _; iexact Ho

theorem gotR_got (h : s ∈ σ.got) : (gotR σ c s : sProp 𝕄) = atPos ER (recvCell s c) 1 ∅ 0 := if_pos h
theorem gotR_before (h : s ∉ σ.got) : (gotR σ c s : sProp 𝕄)
    = iprop(atPos ER (recvCell s c) 0 ∅ 0 ∗ cred (tallyAt (recvCell s c) () (amt s))) := if_neg h

theorem sound_back (s : Fin 18) (h : σ.Ok (.back s)) : Sound A K c k Q σ (.back s) := by
  have ho : ∀ j, j ≠ s → sendR (σ.after (.back s)) c j = (sendR σ c j : sProp 𝕄) := by
    intro j hj
    by_cases hjn : j.val < σ.n
    · by_cases hb : j ∈ σ.back
      · rw [sendR_back c hjn hb]; exact sendR_back c hjn (Finset.mem_insert_of_mem hb)
      · rw [sendR_made c hjn hb]; exact sendR_made c hjn (fun h' => (Finset.mem_insert.mp h').elim hj hb)
    · rw [sendR_before c hjn]; exact sendR_before c hjn
  unfold Sound res
  iintro ⟨#HR, Hown, Hrecv, Hout, Hsend, Hgot, Hin, Hos, ⟨%W, Ho⟩⟩ Hk
  ihave Hsend := (bigSep_univ_update (Ψ := sendR (σ.after (.back s)) c) s ho) $$ Hsend
  rw [sendR_made c h.2.1 h.1, sendR_back (σ := σ.after (.back s)) c h.2.1 (Finset.mem_insert_self _ _)]
  icases Hsend with ⟨⟨Hat, Hc⟩, Hback⟩
  iapply (wait_shared A K c k Q (some (false, s)) (sendSem s) rfl (amt s) (lends A s c) (expect_send A c s) (rest_send A c s)
    (m := σ.n) (B := recv) (B' := sent s) (Memref.isWhole_whole _) (sent_whole s) (off (src s) c) (inbOff (tallOf_le s) _ c)
    (words (tallOf_le s) (tallOf_dvd s) _ c) (amt_sent s _ _) W (by unfold lv; dsimp only; rw [role_send]; exact Nat.zero_le _)) $$ [Hat Hc Ho]
  · isplitr; · iexact HR
    isplitl [Hat]; · iexact Hat
    isplitl [Hc] <;> iassumption
  iintro ⟨Hl, Hat, Ho⟩
  ihave Hl := ((lends_back h).take A c) $$ [Hl Hown Hrecv]
  · isplitl [Hl]; · iexact Hl
    isplitl [Hown] <;> iassumption
  icases Hl with ⟨Hown, Hrecv⟩
  iapply Hk
  isplitl [Hown]; · iexact Hown
  isplitl [Hrecv]; · iexact Hrecv
  isplitl [Hout]; · iexact Hout
  isplitl [Hat Hback]
  · iapply Hback $$ Hat
  isplitl [Hgot]; · iexact Hgot
  isplitl [Hin]; · iexact Hin
  isplitl [Hos]; · iexact Hos
  iexact Ho

theorem sound_got (s : Fin 18) (h : σ.Ok (.got s)) : Sound A K c k Q σ (.got s) := by
  obtain ⟨hg, hn, h1, h2⟩ := h
  have hin : s ∈ (σ.after (.got s)).got := Finset.mem_insert_self _ _
  have ho : ∀ j, j ≠ s → gotR (σ.after (.got s)) c j = (gotR σ c j : sProp 𝕄) := by
    intro j hj
    by_cases hb : j ∈ σ.got
    · rw [gotR_got c hb]; exact gotR_got c (Finset.mem_insert_of_mem hb)
    · rw [gotR_before c hb]; exact gotR_before c (fun h' => (Finset.mem_insert.mp h').elim hj hb)
  have hr : ∀ j, j ≠ s → recvR A (σ.after (.got s)) c j = recvR A σ c j := by
    intro j hj
    by_cases hb : j ∈ σ.got
    · rw [recvR_got A c hb]; exact recvR_got A c (Finset.mem_insert_of_mem hb)
    · rw [recvR_ungot A c hb]; exact recvR_ungot A c (fun h' => (Finset.mem_insert.mp h').elim hj hb)
  have hl : landed A s c ⊢ recvR A (σ.after (.got s)) c s := by
    rw [recvR_got A c hin, show (σ.after (.got s)).lent 1 s = false from h1, show (σ.after (.got s)).lent 2 s = false from h2,
      whenHeld_false, whenHeld_false]
    unfold landed
    exact ((pointsTo_share (PosShare.mem_left_op_right fullShare)).1).trans
      (sep_mono_right (pointsTo_share (PosShare.mem_left_op_right fullShare.right)).1)
  unfold Sound res
  iintro ⟨#HR, Hown, Hrecv, Hout, Hsend, Hgot, Hin, Hos, ⟨%W, Ho⟩⟩ Hk
  ihave Hgot := (bigSep_univ_update (Ψ := gotR (σ.after (.got s)) c) s ho) $$ Hgot
  rw [gotR_before c hg, gotR_got c hin]
  icases Hgot with ⟨⟨Hat, Hc⟩, Hback⟩
  ihave Hrecv := (bigSep_univ_update (Ψ := recvR A (σ.after (.got s)) c) s hr) $$ Hrecv
  icases Hrecv with ⟨-, Hrback⟩
  iapply (wait_shared A K c k Q (some (true, s)) (recvSem s) rfl (amt s) (landed A s c) (expect_recv A c s) (rest_recv A c s)
    (m := σ.n) (B := sent s) (B' := recv) (sent_whole s) (Memref.isWhole_whole _) (off s c) (inbOff (tallOf_le s) _ c)
    (words (tallOf_le s) (tallOf_dvd s) _ c) (amt_recv s _ _) W (by have := lv_recv s c; show lv (recvCell s c) () ≤ _; omega)) $$ [Hat Hc Ho]
  · isplitr; · iexact HR
    isplitl [Hat]; · iexact Hat
    isplitl [Hc] <;> iassumption
  iintro ⟨Hl, Hat, Ho⟩
  iapply Hk
  isplitl [Hown]; · iexact Hown
  isplitl [Hl Hrback]
  · iapply Hrback
    iapply hl $$ Hl
  isplitl [Hout]; · iexact Hout
  isplitl [Hsend]; · iexact Hsend
  isplitl [Hat Hback]
  · iapply Hback $$ Hat
  isplitl [Hin]; · iexact Hin
  isplitl [Hos]; · iexact Hos
  iexact Ho

/-! ## The plan -/

/-- Every move allowed is sound, -/
theorem sound (mv : Move) (h : σ.Ok mv) : Sound A K c k Q σ mv := match mv with
  | .start b B => sound_start A K c k Q b B h
  | .cast b B => sound_cast A K c k Q b B h
  | .send s => sound_send A K c k Q s h
  | .got s => sound_got A K c k Q s h
  | .emit b B => sound_emit A K c k Q b B h
  | .out b B => sound_out A K c k Q b B h
  | .back s => sound_back A K c k Q s h

/-- and so is a list of moves all allowed. -/
theorem sound_list (l : List Move) : ∀ {σ : St}, σ.Allowed l →
    iprop(recs A K ∗ res A σ c) ⊢ iprop((res A (σ.finish l) c -∗ Runs c k Q) -∗ Runs c (carry c l k) Q) := by
  induction l with
  | nil =>
    intro σ _
    rw [show σ.finish [] = σ from rfl, show carry c [] k = k from rfl]
    iintro ⟨-, H⟩ Hk
    iapply Hk $$ H
  | cons mv l ih =>
    intro σ h
    have h1 := sound A K c (carry c l k) Q mv h.1
    unfold Sound at h1
    have h2 := ih h.2
    iintro ⟨#HR, H⟩ Hk
    iapply h1 $$ [H]
    · isplitr; · iexact HR
      iexact H
    iintro H
    iapply h2 $$ [H]
    · isplitr; · iexact HR
      iexact H
    iexact Hk

end Cert.KernelIdeal.AllReduce
-- ==== Proof.Meet.lean ====
module

public import proofs.«01_k».proof.Proof.StepRemote

/-!
# The handshake

A device first tells its three neighbours that the pieces of its `recv` they send to are theirs, and waits to be told the
same by them.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Wide F) (K : Dev nD × Key → ℕ) (c : Dev nD) (k : Run F) (Q : Post F)

/-- What is kept for each send, sorted by the direction it crosses. -/
theorem by_dir (Φ : Fin 18 → sProp 𝕄) : bigSep Finset.univ Φ
    = iprop(bigSep (Finset.univ.filter fun s => dir s = 0) Φ ∗ bigSep (Finset.univ.filter fun s => dir s = 1) Φ
      ∗ bigSep (Finset.univ.filter fun s => dir s = 2) Φ) := by
  have e : bigSep Finset.univ Φ = bigSep (Finset.univ : Finset (Fin 3)) fun k => bigSep (Finset.univ.filter fun s => dir s = k) Φ :=
    (bigSep_fiberwise Finset.univ dir Φ).trans (by rw [show (Finset.univ : Finset (Fin 18)).image dir = Finset.univ from by decide])
  rw [e, bigSep_univ_eq_bigSepL [0, 1, 2] (by decide) (by decide)]
  rfl

/-- A device's whole `recv`, sorted by the neighbours it is for. -/
theorem recv_sorted : (bigSep Finset.univ fun s : Fin 18 => (iprop(∃ f, recvP c fullShare (piece s c) f) : sProp 𝕄))
    = iprop(landing 0 (nb 0 c) ∗ landing 1 (nb 1 c) ∗ landing 2 (nb 2 c)) := by
  rw [by_dir]
  unfold landing
  rw [nb_nb, nb_nb, nb_nb]
/-- What the neighbours hand over is where the sends land. -/
theorem landing_sorted : (bigSep Finset.univ fun s : Fin 18 => (iprop(∃ f, recvP (peer s c) fullShare (piece s (peer s c)) f) : sProp 𝕄))
    = iprop(landing 0 c ∗ landing 1 c ∗ landing 2 c) := by
  have e : ∀ k : Fin 3, (bigSep (Finset.univ.filter fun s => dir s = k) fun s : Fin 18 =>
      (iprop(∃ f, recvP (peer s c) fullShare (piece s (peer s c)) f) : sProp 𝕄)) = landing k c := fun k =>
    bigSep_congr fun s hs => by
      have h := (Finset.mem_filter.mp hs).2
      unfold peer
      rw [h]
  rw [by_dir, e, e, e]

/-- What a device needs of the barrier semaphores: its own, the three units it is sent, and a unit to send to each
    neighbour. -/
def ticket : sProp 𝕄 :=
  iprop(atPos ER (barCell c) 0 ∅ 0 ∗ cred (tallyAt (barCell c) () 3)
    ∗ dutyTok ER (barCell (nb 0 c)) 0 0 ∗ dutyTok ER (barCell (nb 1 c)) 0 1 ∗ dutyTok ER (barCell (nb 2 c)) 0 2)

/-- One signal of the handshake. -/
theorem sound_signal (d : Fin 3) {k : Run F} {O O' : CellTallies nD τ sig Unit} {W : Waits sig Unit}
    (hO : O' = O + tallyAt (barCell (nb d c)) () 1) :
    iprop(recs A K ∗ owes (c : Thread nD τ) O' W ∗ dutyTok ER (barCell (nb d c)) 0 d ∗ landing d (nb d c))
      ⊢ iprop((owes (c : Thread nD τ) O W -∗ Runs c k Q) -∗ Runs c (.op (.semSignal (nb d c, .tc) barrier0 1) fun _ => k) Q) := by
  have e : (plot A).payload ((nb d c, Proc.tc), SemLoc.reg barrier0) 0 d = landing d (nb d c) := rfl
  iintro ⟨#HR, HO, Ht, Hl⟩ Hk
  iapply (Rounds.wp_signal 𝒱₀ ER (plot A) (c : Thread nD τ) none (dst := (nb d c, .tc)) (κ := K (nb d c, none)) (d := d)
    (r := 0) ((duties_bar A (nb d c)).symm ▸ Finset.mem_univ d)
    (rfl : price (barCell (nb d c)) = 1) () O hO) $$ [HO Ht Hl] [Hk]
  · isplitr; · iapply (recs_inv A K (nb d c, none)) $$ HR
    isplitl [HO]; · iexact HO
    isplitl [Ht]; · iexact Ht
    isplitl [Hl]; · rw [e]; iexact Hl
    iapply (recs_reached A K (nb d c, none)) $$ HR
  · iexact Hk

/-- The handshake is sound. -/
theorem sound_meet (W : Waits sig Unit) :
    iprop(recs A K ∗ ticket c ∗ owes (c : Thread nD τ) (O₀ c) W
        ∗ bigSep Finset.univ fun s : Fin 18 => iprop(∃ f, recvP c fullShare (piece s c) f))
      ⊢ iprop(((atPos ER (barCell c) 1 ∅ 0 ∗ (∃ W, owes (c : Thread nD τ) (owed c 0) W)
          ∗ bigSep Finset.univ fun s : Fin 18 => iprop(∃ f, recvP (peer s c) fullShare (piece s (peer s c)) f)) -∗ Runs c k Q)
        -∗ Runs c (meet (nb 0 c) (nb 1 c) (nb 2 c) k) Q) := by
  unfold ticket meet
  rw [recv_sorted, landing_sorted]
  iintro ⟨#HR, ⟨Hat, Hc, Ht0, Ht1, Ht2⟩, HO, Hl0, Hl1, Hl2⟩ Hk
  iapply (sound_signal A K c Q 0 (O := owedA c) rfl) $$ [HO Ht0 Hl0]
  · isplitr; · iexact HR
    isplitl [HO]; · iexact HO
    isplitl [Ht0] <;> iassumption
  iintro HO
  iapply (sound_signal A K c Q 1 (O := owedB c) rfl) $$ [HO Ht1 Hl1]
  · isplitr; · iexact HR
    isplitl [HO]; · iexact HO
    isplitl [Ht1] <;> iassumption
  iintro HO
  iapply (sound_signal A K c Q 2 (O := owed c 0) rfl) $$ [HO Ht2 Hl2]
  · isplitr; · iexact HR
    isplitl [HO]; · iexact HO
    isplitl [Ht2] <;> iassumption
  iintro HO
  iapply (Rounds.wp_wait_rest_token 𝒱₀ ER (plot A) (c : Thread nD τ) none (κ := K (c, none))
    (wpE_semWait_eq 𝒱₀ (c : Thread nD τ) none Set.univ) (Set.mem_univ _) () (O := owed c 0) (W := W) (R := 0) (m := 0) (T := ∅)
    (by rw [Nat.zero_add]; exact (expect_bar A c).symm)) $$ [Hc HO Hat]
  · isplitr; · iapply (recs_inv A K (c, none)) $$ HR
    isplitl [Hc]; · iexact Hc
    isplitl [HO]; · iexact HO
    isplitr; · iapply (may_wait c 0 (.reg barrier0) le_rfl); iapply (recs_lev A K) $$ HR
    iexact Hat
  iintro ⟨HO, Hat, -, Hp⟩
  ihave Hp := (Entails.of_eq (rest_bar A c)) $$ Hp
  iapply Hk
  isplitl [Hat]; · iexact Hat
  isplitl [HO]; · iexists _; iexact HO
  iexact Hp

end Cert.KernelIdeal.AllReduce
-- ==== Proof.Whole.lean ====
module

public import proofs.«01_k».proof.Proof.Meet

/-!
# From whole buffers and back

Before its moves a device cuts the buffers it holds whole in pieces and slots; after them it joins them again, with the
result on every piece, and its semaphores' rounds are over.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → Wide F) (K : Dev nD × Key → ℕ) (c : Dev nD)

/-! ## The result -/

theorem in_piece (i : S8192x1024.Idx) : ∃ p : Fin 18, i ∈ piece p c := by
  have h : i ∈ (Finset.univ : Finset (Fin 18)).biUnion (fun p => piece p c) := by rw [pieces_cover]; exact Finset.mem_univ i
  obtain ⟨p, -, hp⟩ := Finset.mem_biUnion.mp h
  exact ⟨p, hp⟩
/-- The piece an element is in. -/
def pieceOf (i : S8192x1024.Idx) : Fin 18 := (in_piece c i).choose
theorem pieceOf_eq {i : S8192x1024.Idx} {p : Fin 18} (h : i ∈ piece p c) : pieceOf c i = p := by
  by_contra hne
  exact Finset.disjoint_left.mp (piece_disjoint c _ _ hne) (in_piece c i).choose_spec h
/-- What the device's result ends as. -/
def result : Narrow F := fun i => total A (pieceOf c i) c i
theorem result_piece {i : S8192x1024.Idx} {p : Fin 18} (h : i ∈ piece p c) : total A p c i = result A c i := by
  unfold result; rw [pieceOf_eq c h]

/-! ## The start -/

/-- The right to make send `s`. -/
def mayGive (s : Fin 18) : sProp 𝕄 :=
  iprop(atPos ER (sendCell s c) 0 ∅ 0 ∗ dutyTok ER (sendCell s c) 0 0 ∗ dutyTok ER (recvCell s (peer s c)) 0 0)
/-- The right to wait for what send `s` brings. -/
def mayTake (s : Fin 18) : sProp 𝕄 :=
  iprop(atPos ER (recvCell s c) 0 ∅ 0 ∗ cred (tallyAt (recvCell s c) () (amt s)))
/-- The semaphores of the device's own copies, at rest. -/
def idle : sProp 𝕄 :=
  iprop((bigSep Finset.univ fun b : Fin 2 => semVal ((c : Thread nD τ), .dma (inS b)) 0)
    ∗ bigSep Finset.univ fun b : Fin 2 => semVal ((c : Thread nD τ), .dma (outS b)) 0)
/-- The four buffers of the kernel's own. -/
def scratch : sProp 𝕄 :=
  iprop((∃ f, ownP c fullShare Finset.univ f) ∗ (∃ f, recvP c fullShare Finset.univ f)
    ∗ (∃ f, stageP c Finset.univ f) ∗ (∃ f, ostageP c Finset.univ f))

theorem pieces_apart : ∀ i ∈ (Finset.univ : Finset (Fin 18)), ∀ j ∈ (Finset.univ : Finset (Fin 18)), i ≠ j →
    Disjoint (piece i c) (piece j c) := fun i _ j _ h => piece_disjoint c i j h
theorem slots_apart : ∀ i ∈ (Finset.univ : Finset (Fin 2)), ∀ j ∈ (Finset.univ : Finset (Fin 2)), i ≠ j → Disjoint (slot i) (slot j) := by
  intro i _ j _ h
  fin_cases i <;> fin_cases j
  · exact absurd rfl h
  · exact slots_disjoint
  · exact slots_disjoint.symm
  · exact absurd rfl h
theorem slots_all : (Finset.univ : Finset (Fin 2)).biUnion slot = Finset.univ := by
  rw [show (Finset.univ : Finset (Fin 2)) = {0, 1} from by decide, Finset.biUnion_insert, Finset.singleton_biUnion]
  exact slots_cover

theorem own_cut (f : Narrow F) :
    (ownP c fullShare Finset.univ f : sProp 𝕄) = bigSep Finset.univ fun p : Fin 18 => ownP c fullShare (piece p c) f := by
  have e : (ownP c fullShare (Finset.univ.biUnion fun p => piece p c) f : sProp 𝕄)
    = bigSep Finset.univ fun p : Fin 18 => ownP c fullShare (piece p c) f := pointsTo_biUnion _ _ (pieces_apart c)
  rwa [pieces_cover] at e
theorem recv_cut (f : Narrow F) :
    (recvP c fullShare Finset.univ f : sProp 𝕄) = bigSep Finset.univ fun p : Fin 18 => recvP c fullShare (piece p c) f := by
  have e : (recvP c fullShare (Finset.univ.biUnion fun p => piece p c) f : sProp 𝕄)
    = bigSep Finset.univ fun p : Fin 18 => recvP c fullShare (piece p c) f := pointsTo_biUnion _ _ (pieces_apart c)
  rwa [pieces_cover] at e
theorem out_cut (f : Narrow F) :
    (outP c Finset.univ f : sProp 𝕄) = bigSep Finset.univ fun p : Fin 18 => outP c (piece p c) f := by
  have e : (outP c (Finset.univ.biUnion fun p => piece p c) f : sProp 𝕄)
    = bigSep Finset.univ fun p : Fin 18 => outP c (piece p c) f := pointsTo_biUnion _ _ (pieces_apart c)
  rwa [pieces_cover] at e
theorem stage_cut (f : FVec F S2x512x1024 .f32) :
    (stageP c Finset.univ f : sProp 𝕄) = bigSep Finset.univ fun b : Fin 2 => stageP c (slot b) f := by
  have e : (stageP c (Finset.univ.biUnion slot) f : sProp 𝕄)
    = bigSep Finset.univ fun b : Fin 2 => stageP c (slot b) f := pointsTo_biUnion _ _ slots_apart
  rwa [slots_all] at e
theorem ostage_cut (f : FVec F S2x512x1024 .bf16) :
    (ostageP c Finset.univ f : sProp 𝕄) = bigSep Finset.univ fun b : Fin 2 => ostageP c (slot b) f := by
  have e : (ostageP c (Finset.univ.biUnion slot) f : sProp 𝕄)
    = bigSep Finset.univ fun b : Fin 2 => ostageP c (slot b) f := pointsTo_biUnion _ _ slots_apart
  rwa [slots_all] at e

omit [FloatOps F] in
/-- Of a family, each holds something if each holds a given thing. -/
theorem forget {I X : Type} (P : Finset I) (Φ : I → X → sProp 𝕄) (x : X) :
    bigSep P (fun i => Φ i x) ⊢ bigSep P fun i => iprop(∃ x, Φ i x) := by
  have e : ∀ i, Φ i x ⊢ iprop(∃ x, Φ i x) := fun i => by iintro H; iexists x; iexact H
  exact bigSep_mono fun i _ => e i

/-- The right to make a send, with where it lands. -/
theorem send_zero (s : Fin 18) : iprop(mayGive c s ∗ ∃ f, recvP (peer s c) fullShare (piece s (peer s c)) f) ⊢ sendR (F := F) St.zero c s := by
  rw [show sendR (F := F) St.zero c s = _ from if_neg (Nat.not_lt_zero _)]
  unfold mayGive
  iintro ⟨⟨H1, H2, H3⟩, H4⟩
  isplitl [H1]; · iexact H1
  isplitl [H2]; · iexact H2
  isplitl [H3] <;> iassumption

/-- A device that holds its buffers whole and has shaken hands is ready for the plan. -/
theorem res_start :
    iprop(argP c fullShare Finset.univ (A c) ∗ (∃ f, outP c Finset.univ f) ∗ (∃ f, ownP c fullShare Finset.univ f)
        ∗ (∃ f, stageP c Finset.univ f) ∗ (∃ f, ostageP c Finset.univ f) ∗ idle c
        ∗ bigSep Finset.univ (mayGive c) ∗ bigSep Finset.univ (mayTake c)
        ∗ (bigSep Finset.univ fun s : Fin 18 => iprop(∃ f, recvP (peer s c) fullShare (piece s (peer s c)) f))
        ∗ ∃ W, owes (c : Thread nD τ) (owed c 0) W)
      ⊢ res A St.zero c := by
  have hown : bigSep Finset.univ (ownR A St.zero c) = bigSep Finset.univ fun p => iprop(∃ f, ownP c fullShare (piece p c) f) :=
    bigSep_congr fun p _ => ownR_uncast A c (Finset.notMem_empty p)
  have hrecv : bigSep Finset.univ (recvR A St.zero c) = iprop(emp) :=
    (bigSep_congr fun p _ => recvR_ungot A c (Finset.notMem_empty p)).trans (bigSep_emp_const _)
  have hout : bigSep Finset.univ (outR A St.zero c) = bigSep Finset.univ fun p => iprop(∃ f, outP c (piece p c) f) :=
    bigSep_congr fun p _ => outR_none A c (Finset.notMem_empty p) (Finset.notMem_empty p)
  have hsend : iprop(bigSep Finset.univ (mayGive c)
      ∗ bigSep Finset.univ fun s : Fin 18 => iprop(∃ f, recvP (peer s c) fullShare (piece s (peer s c)) f))
      ⊢ bigSep Finset.univ (sendR (F := F) St.zero c) := by
    rw [← bigSep_sep']
    exact bigSep_mono fun s _ => send_zero c s
  have hgot : bigSep Finset.univ (mayTake (F := F) c) = bigSep Finset.univ (gotR St.zero c) :=
    bigSep_congr fun s _ => (if_neg (Finset.notMem_empty s)).symm
  unfold res idle
  rw [hown, hrecv, hout, ← hgot]
  iintro ⟨Ha, ⟨%fo, Ho⟩, ⟨%fw, Hw⟩, ⟨%fs, Hs⟩, ⟨%ft, Ht⟩, ⟨Hi, Hj⟩, Hg, Hk, Hl, HO⟩
  ihave Hw := (Entails.of_eq (own_cut c fw)) $$ Hw
  ihave Ho := (Entails.of_eq (out_cut c fo)) $$ Ho
  ihave Hs := (Entails.of_eq (stage_cut c fs)) $$ Hs
  ihave Ht := (Entails.of_eq (ostage_cut c ft)) $$ Ht
  ihave Ha := (pointsTo_share (PosShare.mem_left_op_right fullShare)).1 $$ Ha
  icases Ha with ⟨Ha0, Ha1⟩
  isplitl [Hw]; · iapply (forget Finset.univ (fun p f => ownP c fullShare (piece p c) f) fw) $$ Hw
  isplitr; · iempintro
  isplitl [Ho]; · iapply (forget Finset.univ (fun p f => outP c (piece p c) f) fo) $$ Ho
  isplitl [Hg Hl]; · iapply hsend; isplitl [Hg] <;> iassumption
  isplitl [Hk]; · iexact Hk
  rw [bigSep_univ_two fun b => inR A (St.zero.inn b) c b, bigSep_univ_two fun b => outSR A (St.zero.outn b) c b]
  ihave Hi := (Entails.of_eq (bigSep_univ_two _)) $$ Hi
  ihave Hj := (Entails.of_eq (bigSep_univ_two _)) $$ Hj
  ihave Hs := (Entails.of_eq (bigSep_univ_two _)) $$ Hs
  ihave Ht := (Entails.of_eq (bigSep_univ_two _)) $$ Ht
  icases Hi with ⟨Hi0, Hi1⟩
  icases Hj with ⟨Hj0, Hj1⟩
  icases Hs with ⟨Hs0, Hs1⟩
  icases Ht with ⟨Ht0, Ht1⟩
  isplitl [Hi0 Hi1 Hs0 Hs1 Ha0 Ha1]
  · isplitl [Hi0 Hs0 Ha0]
    · iapply (Entails.of_eq (inR_none A c 0).symm)
      isplitl [Hi0]; · iexact Hi0
      isplitl [Hs0]; · iexists fs; iexact Hs0
      iexact Ha0
    · iapply (Entails.of_eq (inR_none A c 1).symm)
      isplitl [Hi1]; · iexact Hi1
      isplitl [Hs1]; · iexists fs; iexact Hs1
      iexact Ha1
  isplitl [Hj0 Hj1 Ht0 Ht1]
  · isplitl [Hj0 Ht0]
    · iapply (Entails.of_eq (outSR_none A c 0).symm)
      isplitl [Hj0]; · iexact Hj0
      iexists ft; iexact Ht0
    · iapply (Entails.of_eq (outSR_none A c 1).symm)
      isplitl [Hj1]; · iexact Hj1
      iexists ft; iexact Ht1
  iexact HO

/-! ## The end -/

/-- Everything is done. -/
structure Over (σ : St) : Prop where
  inn : ∀ b, σ.inn b = none
  outn : ∀ b, σ.outn b = none
  cast : ∀ p, p ∈ σ.cast
  got : ∀ p, p ∈ σ.got
  done : ∀ p, p ∈ σ.done
  n : σ.n = 18
  back : ∀ s, s ∈ σ.back
  lent : ∀ k p, σ.lent k p = false

theorem plan_over : Over (St.zero.finish plan) :=
  ⟨St.plan_inn, St.plan_outn, St.plan_cast, St.plan_got, St.plan_done, St.plan_n, St.plan_back, St.plan_lent⟩

variable {σ : St} (h : Over σ)
include h

/-- The pieces of `own` are whole again, -/
theorem own_over (p : Fin 18) : ownR A σ c p ⊢ ownP c fullShare (piece p c) (narrow (A c)) := by
  rw [ownR_cast A c (h.cast p), h.lent, whenHeld_false]
  exact (pointsTo_share (PosShare.mem_left_op_right fullShare)).2
/-- and those of `recv`. -/
theorem recv_over (p : Fin 18) : recvR A σ c p ⊢ iprop(∃ f, recvP c fullShare (piece p c) f) := by
  rw [recvR_got A c (h.got p), h.lent, h.lent, whenHeld_false, whenHeld_false]
  have join1 : iprop(recvP c (shareOf 1) (piece p c) (narrow (A (orig p c))) ∗ recvP c (shareOf 2) (piece p c) (narrow (A (orig p c))))
    ⊢ recvP c fullShare.right (piece p c) (narrow (A (orig p c))) := (pointsTo_share (PosShare.mem_left_op_right fullShare.right)).2
  have join2 : iprop(recvP c fullShare.left (piece p c) (narrow (A (orig p c))) ∗ recvP c fullShare.right (piece p c) (narrow (A (orig p c))))
    ⊢ recvP c fullShare (piece p c) (narrow (A (orig p c))) := (pointsTo_share (PosShare.mem_left_op_right fullShare)).2
  iintro ⟨H, H1, H2⟩
  iexists narrow (A (orig p c))
  iapply join2
  isplitl [H]; · iexact H
  iapply join1
  isplitl [H1] <;> iassumption
/-- The result is on every piece. -/
theorem out_over (p : Fin 18) : outR A σ c p = outP c (piece p c) (result A c) :=
  (outR_done A c (h.done p)).trans (pointsTo_congr fun _ hi => result_piece A c hi)
theorem send_over (s : Fin 18) : sendR (F := F) σ c s = atPos ER (sendCell s c) 1 ∅ 0 :=
  (if_pos (by rw [h.n]; exact s.isLt)).trans (if_pos (h.back s))
theorem got_over (s : Fin 18) : gotR (F := F) σ c s = atPos ER (recvCell s c) 1 ∅ 0 := if_pos (h.got s)

omit h in
/-- A shared semaphore whose round is over is at rest. -/
theorem close (x : Dev nD × Key) : iprop(recs A K ∗ atPos ER (cellOfKey x) 1 ∅ 0) ⊢ |={Set.univ}=> (semVal (cellOfKey x) 0 : sProp 𝕄) := by
  iintro ⟨#HR, Hat⟩
  iapply (Rounds.cell_close ER (plot A) (Set.mem_univ (K x)) (fun h => h) (R := 1) (duties_later A (cellOfKey x)))
  isplitr; · iapply (recs_inv A K x) $$ HR
  iexact Hat

omit h in
/-- The shared semaphores of one kind, all over, are all at rest. -/
theorem close_all (key : Fin 18 → Dev nD × Key) :
    iprop(recs A K ∗ bigSep Finset.univ fun s => atPos ER (cellOfKey (key s)) 1 ∅ 0)
      ⊢ |={Set.univ}=> (bigSep Finset.univ fun s => semVal (cellOfKey (key s)) 0 : sProp 𝕄) := by
  have e : iprop(recs A K ∗ bigSep Finset.univ fun s => atPos ER (cellOfKey (key s)) 1 ∅ 0)
      ⊢ bigSep Finset.univ fun s => iprop(|={Set.univ}=> (semVal (cellOfKey (key s)) 0 : sProp 𝕄)) :=
    bigSep_with_persistent fun s _ => close A K (key s)
  exact e.trans (bigSep_fupd _ _)

/-- The semaphores shared, at rest. -/
def rest : sProp 𝕄 :=
  iprop(semVal (barCell c) 0 ∗ (bigSep Finset.univ fun s : Fin 18 => semVal (sendCell s c) 0)
    ∗ bigSep Finset.univ fun s : Fin 18 => semVal (recvCell s c) 0)

/-- A device done with the plan holds its buffers whole, the result among them, and all its semaphores are at rest. -/
theorem res_over :
    iprop(recs A K ∗ atPos ER (barCell c) 1 ∅ 0 ∗ res A σ c) ⊢ |={Set.univ}=> iprop(
      argP c fullShare Finset.univ (A c) ∗ outP c Finset.univ (result A c) ∗ scratch c ∗ idle c ∗ rest c
        ∗ ∃ W, owes (c : Thread nD τ) 0 W) := by
  have hown : bigSep Finset.univ (ownR A σ c) ⊢ ownP c fullShare Finset.univ (narrow (A c)) := by
    rw [own_cut]; exact bigSep_mono fun p _ => own_over A c h p
  have hrecv : bigSep Finset.univ (recvR A σ c) ⊢ iprop(∃ f, recvP c fullShare Finset.univ f) := by
    have e : bigSep Finset.univ (recvR A σ c) ⊢ bigSep Finset.univ fun p : Fin 18 => iprop(∃ f, recvP c fullShare (piece p c) f) :=
      bigSep_mono fun p _ => recv_over A c h p
    have g := gather (ℓ := (c : Thread nD τ).loc cc0_scratch1) (narrow (A c)) fullShare Finset.univ (fun p => piece p c) (pieces_apart c)
    rw [pieces_cover] at g
    exact e.trans g
  have hout : bigSep Finset.univ (outR A σ c) = outP c Finset.univ (result A c) := by
    rw [out_cut]; exact bigSep_congr fun p _ => out_over A c h p
  have hsend : bigSep Finset.univ (sendR (F := F) σ c) = bigSep Finset.univ fun s => atPos ER (cellOfKey (c, some (false, s))) 1 ∅ 0 :=
    bigSep_congr fun s _ => send_over c h s
  have hgot : bigSep Finset.univ (gotR (F := F) σ c) = bigSep Finset.univ fun s => atPos ER (cellOfKey (c, some (true, s))) 1 ∅ 0 :=
    bigSep_congr fun s _ => got_over c h s
  have hstage : (bigSep Finset.univ fun b : Fin 2 => iprop(∃ f, stageP c (slot b) f)) ⊢ (iprop(∃ f, stageP c Finset.univ f) : sProp 𝕄) := by
    have g := gather (F := F) (ℓ := (c : Thread nD τ).loc cc0_scratch2) (fun _ => FloatOps.ofBits .f32 0) fullShare Finset.univ slot slots_apart
    rwa [slots_all] at g
  have hostage : (bigSep Finset.univ fun b : Fin 2 => iprop(∃ f, ostageP c (slot b) f)) ⊢ (iprop(∃ f, ostageP c Finset.univ f) : sProp 𝕄) := by
    have g := gather (F := F) (ℓ := (c : Thread nD τ).loc cc0_scratch3) (fun _ => FloatOps.ofBits .bf16 0) fullShare Finset.univ slot slots_apart
    rwa [slots_all] at g
  have harg : (bigSep Finset.univ fun b : Fin 2 => argP c (half b) Finset.univ (A c)) ⊢ (argP c fullShare Finset.univ (A c) : sProp 𝕄) := by
    rw [bigSep_univ_two]; exact (pointsTo_share (PosShare.mem_left_op_right fullShare)).2
  unfold res
  rw [hout, hsend, hgot, h.n, owed_last,
    bigSep_congr (s := Finset.univ) fun b _ => (show inR A (σ.inn b) c b = _ from (congrArg (fun i => inR A i c b) (h.inn b)).trans (inR_none A c b)),
    bigSep_congr (s := Finset.univ) fun b _ => (show outSR A (σ.outn b) c b = _ from (congrArg (fun i => outSR A i c b) (h.outn b)).trans (outSR_none A c b)),
    bigSep_sep', bigSep_sep', bigSep_sep']
  iintro ⟨#HR, Hbar, Hown, Hrecv, Hout, Hsend, Hgot, ⟨Hi, Hs, Ha⟩, ⟨Hj, Ht⟩, HO⟩
  imod (close A K (c, none)) $$ [Hbar] with Hbar
  · isplitr; · iexact HR
    iexact Hbar
  imod (close_all A K fun s => (c, some (false, s))) $$ [Hsend] with Hsend
  · isplitr; · iexact HR
    iexact Hsend
  imod (close_all A K fun s => (c, some (true, s))) $$ [Hgot] with Hgot
  · isplitr; · iexact HR
    iexact Hgot
  ihave Ha := harg $$ Ha
  imodintro
  isplitl [Ha]; · iexact Ha
  isplitl [Hout]; · iexact Hout
  isplitl [Hown Hrecv Hs Ht]
  · unfold scratch
    isplitl [Hown]; · iexists _; iapply hown $$ Hown
    isplitl [Hrecv]; · iapply hrecv $$ Hrecv
    isplitl [Hs]
    · iapply hstage $$ Hs
    · iapply hostage $$ Ht
  isplitl [Hi Hj]
  · unfold idle
    isplitl [Hi] <;> iassumption
  isplitl [Hbar Hsend Hgot]
  · unfold rest
    isplitl [Hbar]; · iexact Hbar
    isplitl [Hsend]; · iexact Hsend
    iexact Hgot
  iexact HO

end Cert.KernelIdeal.AllReduce
-- ==== Proof.Body.lean ====
module

public import proofs.«01_k».proof.Proof.Whole
public import proofs.«01_k».proof.Proof.Gen.KernelIdeal.Points

/-!
# The body

The handshake and the plan together, from what a device starts with to what it ends with.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

/-- The memory at the start. -/
abbrev Mem (F : FTy → Type) : Type := (ℓ : Loc nD τ sig) → Buf (Elt F) ℓ

variable (m : Mem F) (c : Dev nD)

/-- Every device's argument. -/
def arg : Dev nD → Wide F := fun c => m ((c : Thread nD τ).loc main_arg0)

/-- What a device starts with, its own buffers apart. -/
def start : sProp 𝕄 :=
  iprop((∃ K, recs (arg m) K) ∗ ticket c ∗ bigSep Finset.univ (mayGive c) ∗ bigSep Finset.univ (mayTake c) ∗ idle c
    ∗ argP c fullShare Finset.univ (arg m c) ∗ ∃ f, outP c Finset.univ f)
/-- Its argument, unchanged, and the result. -/
def ends : sProp 𝕄 := iprop(argP c fullShare Finset.univ (arg m c) ∗ outP c Finset.univ (result (arg m) c))

/-- What a device holds before the body -/
def before : sProp 𝕄 := iprop(start m c ∗ scratch c)
/-- and after it. -/
def afterwards : sProp 𝕄 := iprop(ends m c ∗ scratch c ∗ idle c ∗ rest c)

/-- The body is sound. -/
theorem sound_text (Q : Post F) (W : Waits sig Unit) :
    iprop(before m c ∗ owes (c : Thread nD τ) (O₀ c) W)
      ⊢ iprop(((afterwards m c ∗ ∃ W, owes (c : Thread nD τ) 0 W) -∗ Q ⟨⟩) -∗ Runs c (text c) Q) := by
  unfold before start scratch
  rw [text_eq]
  iintro ⟨⟨⟨⟨%K, #HR⟩, Hticket, Hgive, Htake, Hidle, Harg, Hout⟩, Hown, ⟨%fr, Hrecv⟩, Hstage, Hostage⟩, HO⟩ Hk
  ihave Hrecv := (Entails.of_eq (recv_cut c fr)) $$ Hrecv
  ihave Hrecv := (forget Finset.univ (fun (p : Fin 18) f => recvP c fullShare (piece p c) f) fr) $$ Hrecv
  iapply (sound_meet (arg m) K c _ Q W) $$ [Hticket HO Hrecv]
  · isplitr; · iexact HR
    isplitl [Hticket]; · iexact Hticket
    isplitl [HO] <;> iassumption
  iintro ⟨Hbar, HO, Hland⟩
  iapply (sound_list (arg m) K c _ Q plan St.plan_allowed) $$ [Hgive Htake Hidle Harg Hout Hown Hstage Hostage HO Hland]
  · isplitr; · iexact HR
    iapply (res_start (arg m) c)
    isplitl [Harg]; · iexact Harg
    isplitl [Hout]; · iexact Hout
    isplitl [Hown]; · iexact Hown
    isplitl [Hstage]; · iexact Hstage
    isplitl [Hostage]; · iexact Hostage
    isplitl [Hidle]; · iexact Hidle
    isplitl [Hgive]; · iexact Hgive
    isplitl [Htake]; · iexact Htake
    isplitl [Hland] <;> iassumption
  iintro Hres
  imod (res_over (arg m) K c plan_over) $$ [Hbar Hres] with ⟨Harg, Hout, Hscratch, Hidle, Hrest, HO⟩
  · isplitr; · iexact HR
    isplitl [Hbar] <;> iassumption
  rw [wp_ret]; imodintro
  iapply Hk
  unfold afterwards ends
  isplitr [HO]
  · isplitl [Harg Hout]
    · isplitl [Harg] <;> iassumption
    isplitl [Hscratch]; · iexact Hscratch
    isplitl [Hidle] <;> iassumption
  · iexact HO

/-- The one region: no windows, one point. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => afterwards m c
  q _ := fullShare
  owed t := match t with
    | ⟨0, _⟩ => O₀ c
    | ⟨_ + 1, _⟩ => 0

/-- Over no windows there is nothing. -/
theorem no_windows (Φ : Fin cfg0.W → sProp 𝕄) : bigSep Finset.univ Φ = iprop(emp) := by
  rw [show (Finset.univ : Finset (Fin cfg0.W)) = ∅ from rfl, bigSep_empty]; rfl

set_option maxRecDepth 65536 in
/-- The body is what the region asks of it. -/
theorem body_obligation : BodyObligation (dats (F := F) m 0 c) (defs₀ (F := F)) 𝒱₀ () Set.univ := fun t => by
  rw [fin_N0 t, no_windows, no_windows]
  show iprop(before m c ∗ (dats m 0 c).owesAt () (t0_0 : Fin cfg0.N).castSucc ∗ emp)
    ⊢ wp frame (wpE (defs₀ (F := F)) 𝒱₀ (c : Thread nD τ) none) Set.univ (bodyAt0 t0_0)
      (fun _ => iprop(afterwards m c ∗ (dats m 0 c).owesAt () (t0_0 : Fin cfg0.N).succ ∗ emp))
  rw [body_eq_text, wp_deviceId]
  unfold Dat.owesAt Pipeline.owesWithin
  rw [show (dats m 0 c).owed (t0_0 : Fin cfg0.N).castSucc = O₀ c from rfl, show (dats m 0 c).owed (t0_0 : Fin cfg0.N).succ = 0 from rfl]
  iintro ⟨Hb, ⟨%W, %hW, HO⟩, -⟩
  iapply (sound_text m c _ W) $$ [Hb HO]
  · isplitl [Hb] <;> iassumption
  iintro ⟨Ha, ⟨%W', HO⟩⟩
  isplitl [Ha]; · iexact Ha
  isplitl [HO]
  · iexists W'
    isplitr; · ipureintro; exact fun _ _ => Or.inl trivial
    iexact HO
  · iempintro

end Cert.KernelIdeal.AllReduce
-- ==== Proof.Credits.lean ====
module

public import proofs.«01_k».proof.Proof.Body

/-!
# The credit at the start

What the devices owe each other at the start is, at each barrier and each receive semaphore, what its device will wait for.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The shared semaphores are all different -/

/-- Which of its device's shared semaphores a semaphore is. -/
def keyOf (g : GSem nD τ sig) : Key := match g.2 with
  | .reg _ => none
  | .dma q => role q

theorem keyOf_cell (x : Dev nD × Key) : keyOf (cellOfKey x) = x.2 := by
  rcases x with ⟨c, _ | ⟨_ | _, s⟩⟩
  · rfl
  · exact role_send s
  · exact role_recv s
theorem owner_cell (x : Dev nD × Key) : (cellOfKey x).1.1 = x.1 := by
  rcases x with ⟨c, _ | ⟨_ | _, s⟩⟩ <;> rfl
theorem cell_inj : Function.Injective cellOfKey := fun x y h =>
  Prod.ext ((owner_cell x).symm.trans ((congrArg (fun g => g.1.1) h).trans (owner_cell y)))
    ((keyOf_cell x).symm.trans ((congrArg keyOf h).trans (keyOf_cell y)))

theorem bar_eq {c d : Dev nD} (h : barCell c = barCell d) : c = d := congrArg (fun g : GSem nD τ sig => g.1.1) h
theorem recv_eq {s t : Fin 18} {c d : Dev nD} (h : recvCell s c = recvCell t d) : s = t ∧ c = d := by
  have e := cell_inj (a₁ := (c, some (true, s))) (a₂ := (d, some (true, t))) h
  injection e with e1 e2
  injection e2 with e2
  injection e2 with _ e2
  exact ⟨e2, e1⟩
theorem recv_ne_bar (s : Fin 18) (c d : Dev nD) : recvCell s c ≠ barCell d := fun h => by
  have e := congrArg Prod.snd h
  cases e

theorem peer_peer (s : Fin 18) (c : Dev nD) : peer s (peer s c) = c := nb_nb _ c

/-! ## What is owed in all -/

variable (c : Dev nD)

/-- One neighbour in each direction owes a barrier its unit. -/
theorem unit_bar (k : Fin 3) : ∑ d : Dev nD, tallyAt (barCell (nb k d)) () 1 (barCell c) () = 1 := by
  rw [Finset.sum_eq_single (nb k c) (fun d _ hd => ?_) fun h => absurd (Finset.mem_univ _) h, nb_nb, tallyAt_self]
  rw [tallyAt_apply, if_neg fun h => hd (by rw [bar_eq h.1, nb_nb])]
theorem unit_recv (k : Fin 3) (s : Fin 18) (d : Dev nD) : tallyAt (barCell (nb k d)) () 1 (recvCell s c) () = 0 := by
  rw [tallyAt_apply, if_neg fun h => recv_ne_bar s c _ h.1]
theorem owed_bar (d : Dev nD) : owed d 0 (barCell c) () = 0 := by
  rw [owed_apply]
  exact Finset.sum_eq_zero fun s _ => by rw [tallyAt_apply, if_neg fun h => recv_ne_bar s _ c h.1.symm]
/-- One device owes a receive semaphore what its send brings. -/
theorem owed_recv (s : Fin 18) (d : Dev nD) : owed d 0 (recvCell s c) () = if d = peer s c then amt s else 0 := by
  rw [owed_apply, Finset.sum_eq_single s (fun t _ ht => ?_) fun h => absurd (Finset.mem_filter.mpr ⟨Finset.mem_univ s, Nat.zero_le _⟩) h]
  · by_cases h : d = peer s c
    · rw [if_pos h, h, peer_peer, tallyAt_self]
    · rw [if_neg h, tallyAt_apply, if_neg fun h' => h (by rw [(recv_eq h'.1).2, peer_peer])]
  · rw [tallyAt_apply, if_neg fun h' => ht (recv_eq h'.1).1.symm]

theorem O₀_apply (d : Dev nD) (g : GSem nD τ sig) : O₀ d g () = owed d 0 g () + tallyAt (barCell (nb 2 d)) () 1 g ()
    + tallyAt (barCell (nb 1 d)) () 1 g () + tallyAt (barCell (nb 0 d)) () 1 g () := rfl

theorem credit_bar :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => O₀_apply d (barCell c),
    Finset.sum_add_distrib, Finset.sum_add_distrib, Finset.sum_add_distrib, unit_bar, unit_bar, unit_bar,
    Finset.sum_eq_zero fun d _ => owed_bar c d]
theorem credit_recv (s : Fin 18) :
    tallyOn (recvCell s c) (launchCredit (Pipeline.owing O₀) 0 (recvCell s c)) = (tallyAt (recvCell s c) () (amt s) : CellTallies nD τ sig Unit) := by
  unfold tallyAt
  refine congrArg _ (Finsupp.ext fun u => ?_)
  cases u
  have e : ∀ d : Dev nD, O₀ d (recvCell s c) () = if d = peer s c then amt s else 0 := fun d => by
    rw [O₀_apply, unit_recv, unit_recv, unit_recv, owed_recv, add_zero, add_zero, add_zero]
  rw [Pipeline.launchCredit_owing, Finsupp.single_eq_same, Finset.sum_congr rfl fun d _ => e d,
    Finset.sum_ite_eq' Finset.univ (peer s c) fun _ => amt s, if_pos (Finset.mem_univ _)]

theorem recvSem_inj : Function.Injective fun s : Fin 18 => (SemLoc.dma (recvSem s) : SemLoc sig) := fun s t h =>
  (recv_eq (c := (0 : Dev nD)) (d := 0) (by unfold recvCell; exact congrArg _ h)).1

/-- So a device has the credit for its waits. -/
theorem credits : (Pipeline.launchCred O₀ c : sProp 𝕄)
    ⊢ iprop(cred (tallyAt (barCell c) () 3) ∗ bigSep Finset.univ fun s : Fin 18 => cred (tallyAt (recvCell s c) () (amt s))) := by
  have hn : (SemLoc.reg barrier0 : SemLoc sig) ∉ Finset.univ.map ⟨_, recvSem_inj⟩ := fun h => by
    obtain ⟨s, -, hs⟩ := Finset.mem_map.mp h
    cases hs
  unfold Pipeline.launchCred
  refine (bigSep_subset (Finset.subset_univ (insert (SemLoc.reg barrier0 : SemLoc sig) (Finset.univ.map ⟨_, recvSem_inj⟩)))).trans ?_
  rw [bigSep_insert hn, bigSep_map, credit_bar]
  refine sep_mono_right (Entails.of_eq (bigSep_congr fun s _ => ?_))
  rw [← credit_recv]
  rfl

end Cert.KernelIdeal.AllReduce
-- ==== Proof.Deal.lean ====
module

public import proofs.«01_k».proof.Proof.Credits

/-!
# Dealing the resources at the start

All shared semaphores of all devices get their protocol at once; each device takes its own positions and the tokens for the units IT brings.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A device's semaphores -/

/-- Something for each shared semaphore: for the barrier, for the sends, for the receives. -/
theorem by_key (Ψ : Key → sProp 𝕄) : bigSep Finset.univ Ψ
    = iprop(Ψ none ∗ (bigSep Finset.univ fun s : Fin 18 => Ψ (some (false, s))) ∗ bigSep Finset.univ fun s : Fin 18 => Ψ (some (true, s))) := by
  rw [bigSep_univ_equiv ((Equiv.sumComm PUnit.{1} (Bool × Fin 18)).trans (Equiv.optionEquivSumPUnit (Bool × Fin 18)).symm) Ψ, bigSep_univ_sum,
    bigSep_univ_prod, bigSep_univ_eq_bigSepL [PUnit.unit] (by decide) (by decide),
    bigSep_univ_eq_bigSepL [false, true] (by decide) (by decide)]
  rfl

/-- All the kernel's own semaphores. -/
def osem : Fin 40 → SemLoc sig := fun q => .dma q
theorem ownSemFacts : Pipeline.OwnSemFacts cfg0.spec osem := by decide

/-- The copy semaphores by what they are for. -/
def place : (Fin 2 ⊕ Fin 2) ⊕ (Fin 18 ⊕ Fin 18) → Fin 40
  | .inl (.inl b) => inS b
  | .inl (.inr b) => outS b
  | .inr (.inl s) => sendSem s
  | .inr (.inr s) => recvSem s
theorem place_inj : Function.Injective place := by decide +kernel
def places : (Fin 2 ⊕ Fin 2) ⊕ (Fin 18 ⊕ Fin 18) ≃ Fin 40 :=
  Equiv.ofBijective place ((Fintype.bijective_iff_injective_and_card _).mpr ⟨place_inj, by decide⟩)

variable (c : Dev nD)

theorem bar_alone : (unscopedSems0 c : sProp 𝕄) = semVal (barCell c) 0 := by
  unfold unscopedSems0; rw [bigSep_eq_bigSepL_of_eq [SemLoc.reg barrier0] (by decide) (by decide)]; rfl
theorem own_sorted : (Pipeline.ownSems0 (τ := τ) osem c : sProp 𝕄)
    = iprop(idle c ∗ (bigSep Finset.univ fun s => semVal (sendCell s c) 0) ∗ bigSep Finset.univ fun s => semVal (recvCell s c) 0) := by
  unfold Pipeline.ownSems0
  rw [bigSep_univ_equiv places, bigSep_univ_sum, bigSep_univ_sum, bigSep_univ_sum]
  rfl
/-- A device's semaphores are the idle ones and the shared ones. -/
theorem sems_split : iprop(Pipeline.ownSems0 (τ := τ) osem c ∗ unscopedSems0 c)
    ⊢ (iprop(idle c ∗ bigSep Finset.univ fun k : Key => semVal (cellOfKey (c, k)) 0) : sProp 𝕄) := by
  rw [bar_alone, own_sorted, by_key]
  iintro ⟨⟨Hi, Hs, Hr⟩, Hb⟩
  isplitl [Hi]; · iexact Hi
  isplitl [Hb]; · iexact Hb
  isplitl [Hs]; · iexact Hs
  iexact Hr
theorem sems_join : (iprop(idle c ∗ rest c) : sProp 𝕄) ⊢ iprop(unscopedSems0 c ∗ Pipeline.ownSems0 (τ := τ) osem c) := by
  rw [bar_alone, own_sorted]
  unfold rest
  iintro ⟨Hi, Hb, Hs, Hr⟩
  isplitl [Hb]; · iexact Hb
  isplitl [Hi]; · iexact Hi
  isplitl [Hs]; · iexact Hs
  iexact Hr

/-! ## The first resources -/

/-- All shared semaphores. -/
def cells : Finset (GSem nD τ sig) := Finset.univ.map ⟨cellOfKey, cell_inj⟩

/-- A token for each unit a semaphore gets. -/
def tokOf (x : Dev nD × (Fin 3 ⊕ (Fin 18 ⊕ Fin 18))) : GSem nD τ sig × ℕ × Fin 3 := match x.2 with
  | .inl k => (barCell x.1, 0, k)
  | .inr (.inl s) => (sendCell s x.1, 0, 0)
  | .inr (.inr s) => (recvCell s x.1, 0, 0)
/-- The semaphore and the label a token is for. -/
def keyOfTok (y : GSem nD τ sig × ℕ × Fin 3) : Dev nD × (Fin 3 ⊕ (Fin 18 ⊕ Fin 18)) := (y.1.1.1, match keyOf y.1 with
  | none => .inl y.2.2
  | some (false, s) => .inr (.inl s)
  | some (true, s) => .inr (.inr s))
theorem tok_inj : Function.Injective tokOf := Function.LeftInverse.injective (g := keyOfTok) (by
  rintro ⟨d, k | s | s⟩
  · rfl
  · unfold keyOfTok tokOf; dsimp only; rw [show keyOf (sendCell s d) = _ from role_send s]
  · unfold keyOfTok tokOf; dsimp only; rw [show keyOf (recvCell s d) = _ from role_recv s])
def tokens : Finset (GSem nD τ sig × ℕ × Fin 3) := Finset.univ.map ⟨tokOf, tok_inj⟩

/-- The first ghost state: the pipeline's, the protocol's, and no counters. -/
def u₀ : UU := (initOf (Pipeline.cells cfgs cellOf_inj) (Pipeline.launchToks cfgs cellOf_inj), (initOf cells tokens, 1))

theorem u₀_split : (ownU u₀ : sProp 𝕄)
    ⊢ iprop(BI.own (EP (initOf (Pipeline.cells cfgs cellOf_inj) (Pipeline.launchToks cfgs cellOf_inj))) ∗ BI.own (ER (initOf cells tokens))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells tokens, (1 : Counters)))))

/-- The tokens of a device's own semaphores -/
def toks : sProp 𝕄 :=
  iprop((bigSep Finset.univ fun k : Fin 3 => dutyTok ER (barCell c) 0 k)
    ∗ (bigSep Finset.univ fun s : Fin 18 => dutyTok ER (sendCell s c) 0 0) ∗ bigSep Finset.univ fun s : Fin 18 => dutyTok ER (recvCell s c) 0 0)
/-- and the tokens for the units it brings. -/
def paid : sProp 𝕄 :=
  iprop((bigSep Finset.univ fun k : Fin 3 => dutyTok ER (barCell (nb k c)) 0 k)
    ∗ (bigSep Finset.univ fun s : Fin 18 => dutyTok ER (sendCell s c) 0 0)
    ∗ bigSep Finset.univ fun s : Fin 18 => dutyTok ER (recvCell s (peer s c)) 0 0)

/-- Over all devices, they are the same tokens. -/
theorem toks_dealt : (bigSep Finset.univ fun c : Dev nD => (toks c : sProp 𝕄)) = bigSep Finset.univ fun c => paid c := by
  have e1 : (bigSep Finset.univ fun c : Dev nD => bigSep Finset.univ fun k : Fin 3 => (dutyTok ER (barCell c) 0 k : sProp 𝕄))
      = bigSep Finset.univ fun c => bigSep Finset.univ fun k : Fin 3 => dutyTok ER (barCell (nb k c)) 0 k := by
    rw [bigSep_univ_comm, bigSep_congr fun k _ => bigSep_univ_equiv (across k) fun c => (dutyTok ER (barCell c) 0 k : sProp 𝕄), bigSep_univ_comm]
    rfl
  have e2 : (bigSep Finset.univ fun c : Dev nD => bigSep Finset.univ fun s : Fin 18 => (dutyTok ER (recvCell s c) 0 0 : sProp 𝕄))
      = bigSep Finset.univ fun c => bigSep Finset.univ fun s : Fin 18 => dutyTok ER (recvCell s (peer s c)) 0 0 := by
    rw [bigSep_univ_comm, bigSep_congr fun s _ => bigSep_univ_equiv (across (dir s)) fun c => (dutyTok ER (recvCell s c) 0 0 : sProp 𝕄),
      bigSep_univ_comm]
    rfl
  unfold toks paid
  rw [bigSep_sep', bigSep_sep', bigSep_sep', bigSep_sep', e1, e2]

/-! ## The launch's first step -/

variable (A : Dev nD → Wide F)

/-- What device `c` has of the first state. -/
def G : sProp 𝕄 :=
  iprop((bigSep Finset.univ fun k : Key => roundState ER (plot A) (cellOfKey (c, k)) 0)
    ∗ (bigSep Finset.univ fun k : Key => reached ER (cellOfKey (c, k)) 0)
    ∗ (bigSep Finset.univ fun k : Key => atPos ER (cellOfKey (c, k)) 0 ∅ 0) ∗ toks c)

theorem cells_dealt (Φ : GSem nD τ sig → sProp 𝕄) :
    bigSep cells Φ = bigSep Finset.univ fun c : Dev nD => bigSep Finset.univ fun k : Key => Φ (cellOfKey (c, k)) := by
  unfold cells; rw [bigSep_map, bigSep_univ_prod]; rfl
theorem tokens_dealt : bigSep tokens (fun x => (dutyTok ER x.1 x.2.1 x.2.2 : sProp 𝕄)) = bigSep Finset.univ fun c : Dev nD => toks c := by
  unfold tokens; rw [bigSep_map, bigSep_univ_prod]
  exact bigSep_congr fun c _ => by rw [bigSep_univ_sum, bigSep_univ_sum]; rfl

theorem G_all : (bigSep Finset.univ fun c => G c A)
    = iprop(bigSep cells (fun g => roundState ER (plot A) g 0) ∗ bigSep cells (fun g => reached ER g 0)
      ∗ bigSep cells (fun g => atPos ER g 0 ∅ 0) ∗ bigSep tokens fun x => dutyTok ER x.1 x.2.1 x.2.2) := by
  unfold G
  rw [bigSep_sep', bigSep_sep', bigSep_sep', cells_dealt, cells_dealt, cells_dealt, tokens_dealt]

theorem first_state : (ownU u₀ : sProp 𝕄) ⊢ |={Set.univ}=>
    iprop(BI.own (EP (initOf (Pipeline.cells cfgs cellOf_inj) (Pipeline.launchToks cfgs cellOf_inj))) ∗ bigSep Finset.univ fun c => G c A) := by
  rw [G_all]
  iintro H
  ihave H := u₀_split $$ H
  icases H with ⟨HP, HR⟩
  imod (Rounds.fund ER (plot A) cells tokens) $$ HR with HG
  imodintro
  isplitl [HP] <;> iassumption

/-! ## The launch's second step -/

/-- What device `c` alone holds. -/
def held : sProp 𝕄 :=
  iprop(idle c ∗ (bigSep Finset.univ fun k : Key => atPos ER (cellOfKey (c, k)) 0 ∅ 0) ∗ paid c)
/-- The protocol everywhere. -/
def known (K : Dev nD × Key → ℕ) : sProp 𝕄 :=
  iprop((bigSep Finset.univ fun x : Dev nD × Key => cellInv ER (plot A) (K x) (cellOfKey x))
    ∗ bigSep Finset.univ fun x : Dev nD × Key => reached ER (cellOfKey x) 0)
instance known_persistent (K : Dev nD × Key → ℕ) : Persistent (known A K) := by unfold known; infer_instance
/-- What device `c` starts from. -/
def G' : sProp 𝕄 := iprop((∃ K, known A K) ∗ held c)

/-- The protocol is set up at all shared semaphores at once. -/
theorem set_up : iprop(bigSep cells (fun g => (semVal g 0 : sProp 𝕄)) ∗ bigSep cells (fun g => roundState ER (plot A) g 0))
    ⊢ |={Set.univ}=> iprop(∃ K : Dev nD × Key → ℕ, bigSep Finset.univ fun x : Dev nD × Key => cellInv ER (plot A) (K x) (cellOfKey x)) := by
  have e : ∀ κ : GSem nD τ sig → ℕ, (bigSep cells fun g => inv (κ g) (Rounds.body ER (plot A) g) : sProp 𝕄)
      ⊢ bigSep Finset.univ fun x : Dev nD × Key => cellInv ER (plot A) (κ (cellOfKey x)) (cellOfKey x) := fun κ => by
    unfold cells; rw [bigSep_map]; exact .rfl
  refine (Rounds.bodies_intro ER (plot A) cells).trans ((inv_alloc_family cells (Rounds.body ER (plot A)) ∅ (E := Set.univ)).trans ?_)
  iintro H
  imod H with ⟨%κ, -, H⟩
  imodintro
  iexists fun x => κ (cellOfKey x)
  iapply (e κ) $$ H

/-- Each device may have what holds for good. -/
theorem with_all {R : sProp 𝕄} [Persistent R] {Φ : Dev nD → sProp 𝕄} : iprop(R ∗ bigSep Finset.univ Φ) ⊢ bigSep Finset.univ fun c => iprop(R ∗ Φ c) := by
  rw [bigSep_sep']
  exact sep_mono_left (BI.bigSep_of_persistent Finset.univ R)

theorem known_all (K : Dev nD × Key → ℕ) : iprop(known A K ∗ bigSep Finset.univ fun c => held c) ⊢ bigSep Finset.univ fun c => G' c A := by
  have e : ∀ c : Dev nD, iprop(known A K ∗ held c) ⊢ G' c A := fun c => by
    unfold G'
    iintro ⟨HK, Hh⟩
    isplitl [HK]
    · iexists K; iexact HK
    · iexact Hh
  exact with_all.trans (bigSep_mono fun c _ => e c)

/-- From all semaphores at zero and the first state, every device has what it starts from. -/
theorem second_state :
    (bigSep Finset.univ fun c : Dev nD => iprop(Pipeline.ownSems0 (τ := τ) osem c ∗ unscopedSems0 c ∗ G c A) : sProp 𝕄)
      ⊢ |={Set.univ}=> bigSep Finset.univ fun c => G' c A := by
  have e : (bigSep Finset.univ fun c : Dev nD => iprop(Pipeline.ownSems0 (τ := τ) osem c ∗ unscopedSems0 c ∗ G c A) : sProp 𝕄)
      ⊢ iprop((bigSep Finset.univ fun c : Dev nD => idle c) ∗ bigSep cells (fun g => semVal g 0) ∗ bigSep Finset.univ fun c => G c A) := by
    rw [cells_dealt, ← bigSep_sep', ← bigSep_sep']
    exact bigSep_mono fun c _ => (sep_assoc.2.trans (sep_mono_left (sems_split c))).trans sep_assoc.1
  have r : (bigSep cells (fun g => (reached ER g 0 : sProp 𝕄))) = bigSep Finset.univ fun x : Dev nD × Key => reached ER (cellOfKey x) 0 := by
    unfold cells; rw [bigSep_map]; rfl
  have h : (iprop((bigSep Finset.univ fun c : Dev nD => idle c) ∗ bigSep cells (fun g => atPos ER g 0 ∅ 0)
      ∗ bigSep tokens fun x => dutyTok ER x.1 x.2.1 x.2.2) : sProp 𝕄) ⊢ bigSep Finset.univ fun c => held c := by
    unfold held
    rw [bigSep_sep', bigSep_sep', cells_dealt, tokens_dealt, toks_dealt]
  refine e.trans ?_
  rw [G_all, r]
  iintro ⟨Hi, Hv, Hst, #Hr, Hat, Htok⟩
  imod (set_up A) $$ [Hv Hst] with ⟨%K, #HI⟩
  · isplitl [Hv] <;> iassumption
  imodintro
  iapply (known_all A K)
  isplitr
  · unfold known
    isplitr <;> iassumption
  iapply h
  isplitl [Hi]; · iexact Hi
  isplitl [Hat] <;> iassumption

end Cert.KernelIdeal.AllReduce
-- ==== Proof.Launch.lean ====
module

public import proofs.«01_k».proof.Proof.Deal
public import Idealize.ShloMosaic.Lib.Pipeline.CollectiveSegs

/-!
# The run

From any memory with all semaphores at zero, every run of the program ends; each device's argument is unchanged, its result is the total of its group, and all semaphores are at zero again.
-/

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : Mem F) (c : Dev nD)

/-! ## Into the region -/

/-- The rights to send, from their parts, -/
theorem give_all : (iprop((bigSep Finset.univ fun s : Fin 18 => atPos ER (sendCell s c) 0 ∅ 0)
      ∗ (bigSep Finset.univ fun s : Fin 18 => dutyTok ER (sendCell s c) 0 0)
      ∗ bigSep Finset.univ fun s : Fin 18 => dutyTok ER (recvCell s (peer s c)) 0 0) : sProp 𝕄) ⊢ bigSep Finset.univ (mayGive c) := by
  rw [← bigSep_sep', ← bigSep_sep']; exact .rfl
/-- and the rights to wait. -/
theorem take_all : (iprop((bigSep Finset.univ fun s : Fin 18 => atPos ER (recvCell s c) 0 ∅ 0)
      ∗ bigSep Finset.univ fun s : Fin 18 => cred (tallyAt (recvCell s c) () (amt s))) : sProp 𝕄) ⊢ bigSep Finset.univ (mayTake c) := by
  rw [← bigSep_sep']; exact .rfl
theorem three (Φ : Fin 3 → sProp 𝕄) : bigSep Finset.univ Φ = iprop(Φ 0 ∗ Φ 1 ∗ Φ 2) :=
  bigSep_univ_eq_bigSepL [0, 1, 2] (by decide) (by decide) Φ

/-- What the launch deals a device is what it starts with. -/
theorem start_made (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' c (arg m))
      ⊢ |={Set.univ}=> iprop(start m c ∗ emp) := by
  have hk := by_key (F := F) fun k => atPos ER (cellOfKey (c, k)) 0 ∅ 0
  rw [Pipeline.unscopedRestP_none, unscopedRest0_eq]
  unfold G' held paid known
  rw [hk, three]
  iintro ⟨⟨Hx, Ho⟩, #Hlev, Hcr, -, ⟨%K, #HI, #Hre⟩, Hidle, ⟨Hab, Has, Har⟩, ⟨Ht0, Ht1, Ht2⟩, Hts, Htr⟩
  ihave Hcr := (credits (F := F) c) $$ Hcr
  icases Hcr with ⟨Hcb, Hcr⟩
  ihave Hg := (give_all (F := F) c) $$ [Has Hts Htr]
  · isplitl [Has]; · iexact Has
    isplitl [Hts] <;> iassumption
  ihave Ht := (take_all (F := F) c) $$ [Har Hcr]
  · isplitl [Har]; · iexact Har
    iexact Hcr
  imodintro
  isplitl
  · unfold start ticket recs
    isplitr
    · iexists K
      isplitr; · iexact HI
      isplitr <;> iassumption
    isplitl [Hab Hcb Ht0 Ht1 Ht2]
    · isplitl [Hab]; · iexact Hab
      isplitl [Hcb]; · iexact Hcb
      isplitl [Ht0]; · iexact Ht0
      isplitl [Ht1] <;> iassumption
    isplitl [Hg]; · iexact Hg
    isplitl [Ht]; · iexact Ht
    isplitl [Hidle]; · iexact Hidle
    isplitl [Hx]; · iexact Hx
    iexists (m ((c : Thread nD τ).loc main_v1))
    iexact Ho
  · iempintro

theorem region_in :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-! ## Out of the region -/

theorem region_out :
    (dats m 0 c).Φ (Fin.last cfg0.N)
      ⊢ iprop((ends m c ∗ unscopedSems0 c) ∗ Pipeline.ownSems0 osem c ∗ Pipeline.scopedRest cfg0.spec c) := by
  rw [show (dats m 0 c).Φ (Fin.last cfg0.N) = afterwards m c from rfl, scopedRest0_eq]
  unfold afterwards scratch
  iintro ⟨He, Hscr, Hi, Hr⟩
  ihave H := (sems_join (F := F) c) $$ [Hi Hr]
  · isplitl [Hi] <;> iassumption
  icases H with ⟨Hu, Hos⟩
  isplitl [He Hu]
  · isplitl [He] <;> iassumption
  isplitl [Hos]; · iexact Hos
  iexact Hscr

/-- What holds of a final state at device `c`. -/
def Final (s : MemSt nD τ sig (Elt F)) : Prop :=
  s.mem ((c : Thread nD τ).loc main_arg0) = arg m c ∧ s.mem ((c : Thread nD τ).loc main_v1) = result (arg m) c
    ∧ ∀ sm : SemLoc sig, sm.isScoped .tc = false → s.sem ((c.tc : Thread nD τ), sm) = 0

theorem read_off (s' : Phys nD τ sig (Elt F)) :
    iprop((ends m c ∗ unscopedSems0 c) ∗ emp ∗ SI s') ⊢ |={Set.univ}=> iprop(⌜Final m c s'.mem⌝ ∗ SI s') := by
  have e : ends m c = iprop((((c : Thread nD τ).loc main_arg0) ↦{fullShare} arg m c) ∗ (((c : Thread nD τ).loc main_v1) ↦{fullShare} result (arg m) c)) := rfl
  rw [e]
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hz, HSI⟩
  · isplitl [Hu] <;> iassumption
  imodintro
  isplitr; · ipureintro; exact ⟨Buf.eq_of_forall_mem_univ hx, Buf.eq_of_forall_mem_univ ho, hz⟩
  iexact HSI

/-- The region has no window to wait for. -/
theorem no_waits : (levAts L lv : sProp 𝕄) ⊢ Pipeline.cellsWaits cfgs (dats m) () 0 c :=
  Pipeline.cellsWaits_intro cfgs (dats m) () 0 c fun w _ _ => w.elim0

/-! ## The program -/

set_option maxRecDepth 8000 in
/-- For any float values, any contents and any generator state: every run of the program on the eight devices ends, leaves every
    device's argument as it was, puts the total of the device's group into its result, and returns all semaphores to zero. -/
theorem run_main (ρ : Dev nD → PrngReg) :
    θ_run defs (onTc (τ := τ) (main (F := F))) ⟨m, fun _ => 0, ρ⟩ (fun r =>
      (∀ c : Dev nD, r.2.mem ((c : Thread nD τ).loc main_arg0) = arg m c ∧ r.2.mem ((c : Thread nD τ).loc main_v1) = result (arg m) c)
        ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0) (hdistinct := winFacts0.arr_inj)
    (O₀ := O₀) (howed₀ := fun _ => rfl) (howedN := fun _ => rfl)
    (L := L) (lv := lv) (hL := L_of_ne) (hwaits := no_waits m)
    (G := fun c => G c (arg m)) (G' := fun c => G' c (arg m)) (u₀ := u₀)
    (hu₀ := first_state (arg m)) (hglob := second_state (arg m))
    (hA := fun _ _ => rfl) (hpf := fun _ k => k.elim0)
    (X := start m) (Y := fun c => iprop(ends m c ∗ unscopedSems0 c)) (Z := fun _ => iprop(emp))
    (hX := fun c => start_made m c ρ) (hin := region_in m) (hout := region_out m)
    (QY := Final m) (hY := read_off m)
    (hQ := fun _ h hs => ⟨fun c => ⟨(h c).2.2.1, (h c).2.2.2.1⟩, sem_eq_zero hs fun c => (h c).2.2.2.2⟩)

end Cert.KernelIdeal.AllReduce
-- ==== Proof.Equation.lean ====
module

public import proofs.«01_k».proof.Proof.Whole
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.PureOps.Ideal.Laws

/-!
# The total is the reference's sum

With floats as extended reals, every device's total is the reference's sum over the two blocks, read at the same index.
-/

@[expose] public section

noncomputable section

namespace Cert.KernelIdeal.AllReduce

open Idealize.ShloMosaic Idealize.ShloMosaic.TcCoe
open Cert.KernelIdeal Cert.KernelIdeal.Gen

/-- The array the devices hold blocks of. -/
abbrev Both : Type := FVec Ideal Cert.ReferenceIdeal.S16384x1024 .f32

/-- Row `i` of block `k`, in the array of both blocks. -/
def row (k : Fin 2) (i : S8192x1024.Idx) : Cert.ReferenceIdeal.S16384x1024.Idx := fun a => match a with
  | ⟨0, _⟩ => ⟨8192 * k.val + (i 0).val, by have h : (i 0).val < 8192 := (i 0).isLt; have := k.isLt; show _ < 16384; omega⟩
  | ⟨1, _⟩ => i 1

/-- The reference's value. -/
def sumRef (X : Both) : FVec Ideal Cert.ReferenceIdeal.S8192x1024 .bf16 :=
  truncf .bf16 (Host.reduceAdd (shapeCast _ (extf .f32 (truncf .bf16 X Cert.ReferenceIdeal.Gen.facts.bitsLt_bf16_f32)
      Cert.ReferenceIdeal.Gen.facts.bitsLt_bf16_f32) Cert.ReferenceIdeal.Gen.facts.shapeCasts_S16384x1024_S2x8192x1024)
    (constant Cert.ReferenceIdeal.S_ .f32 0x00000000#32) Cert.ReferenceIdeal.Gen.facts.reducesTo_S2x8192x1024_S8192x1024_d0
    Cert.ReferenceIdeal.Gen.facts.h_S_) Cert.ReferenceIdeal.Gen.facts.bitsLt_bf16_f32

/-- Cut in two blocks, the array has at `(k, i, j)` its row `i` of block `k`. -/
theorem cut_apply (X : Both) (h : Cert.ReferenceIdeal.S16384x1024.ShapeCasts Cert.ReferenceIdeal.S2x8192x1024) (k : Fin 2) (i : S8192x1024.Idx)
    (x : Cert.ReferenceIdeal.S2x8192x1024.Idx) (h0 : (x 0).val = k.val) (h1 : (x 1).val = (i 0).val) (h2 : (x 2).val = (i 1).val) :
    shapeCast Cert.ReferenceIdeal.S2x8192x1024 X h x = X (row k i) := by
  unfold shapeCast
  congr 1
  apply Shape.reshapeEquiv_eq_of_rowMajor
  have e0 : ((row k i) 0).val = 8192 * k.val + (i 0).val := rfl
  have e1 : ((row k i) 1).val = (i 1).val := rfl
  show (Shape.rowMajorPi Cert.ReferenceIdeal.S16384x1024.size (row k i)).val = (Shape.rowMajorPi Cert.ReferenceIdeal.S2x8192x1024.size x).val
  simp only [Shape.rowMajorPi_succ_val, Fin.prod_univ_succ, Shape.rowMajorPi_zero]
  simp [h0, h1, h2, e0, e1]
  omega

/-- Changes of format are nothing here. -/
theorem narrowed {S : Shape} (v : FVec Ideal S .f32) (h : FTy.bits .bf16 < FTy.bits .f32) (i : S.Idx) : truncf .bf16 v h i = (v i : EReal) := rfl
theorem there_and_back {S : Shape} (v : FVec Ideal S .f32) (h : FTy.bits .bf16 < FTy.bits .f32) : extf .f32 (truncf .bf16 v h) h = v := rfl

/-- The reference adds the two blocks. -/
theorem sumRef_apply (X : Both) (i : S8192x1024.Idx) : sumRef X i = (X (row 0 i) + X (row 1 i) : EReal) := by
  unfold sumRef
  rw [narrowed, there_and_back, ValueIdx.hostReduceAdd_apply, Ideal.hostReduceAdd_r3_a0, Fin.sum_univ_two,
    cut_apply _ _ 0 i _ rfl rfl rfl, cut_apply _ _ 1 i _ rfl rfl rfl]
  refine (congrArg (· + _) ?_).trans (zero_add (M := EReal) _)
  exact Ideal.ofBits_zero_f32

/-- Which block a device holds. -/
def yOf (c : Dev nD) : Fin 2 := ⟨c.val / 2 % 2, Nat.mod_lt _ (by decide)⟩
/-- A total is of two devices of different blocks. -/
theorem orig_y (p : Fin 18) (c : Dev nD) : yOf (orig p c) = 1 - yOf c := by revert p c; decide

theorem block_apply (X : Both) (c : Dev nD) (h : Layout.TilesN ⟨2, ![8192, 1024]⟩ ⟨2, ![16384, 1024]⟩ _) (i : S8192x1024.Idx) :
    Layout.blockN ⟨2, ![8192, 1024]⟩ ⟨2, ![16384, 1024]⟩ (Layout.meshBlock [2, 2, 2] ![[1], []] c) X h i = X (row (yOf c) i) := by
  rw [Layout.blockN_apply]
  congr 1
  funext a
  refine Fin.ext ?_
  rw [Layout.TilesN.idx_val]
  match a with
  | ⟨0, _⟩ =>
    show Layout.meshLin [2, 2, 2] c.val [1] * 8192 + (i 0).val = 8192 * (yOf c).val + (i 0).val
    have e : Layout.meshLin [2, 2, 2] c.val [1] = (yOf c).val := by revert c; decide
    rw [e, Nat.mul_comm]
  | ⟨1, _⟩ => show 0 * 1024 + (i 1).val = (i 1).val; omega

/-- Every device's total is the reference's value. -/
theorem result_eq (X : Both) (A : Dev nD → Wide Ideal) (hA : ∀ c i, A c i = X (row (yOf c) i)) (c : Dev nD) : result A c = sumRef X := by
  funext i
  rw [sumRef_apply]
  show (A c i + A (orig (pieceOf c i) c) i : EReal) = _
  rw [hA, hA, orig_y]
  have h : yOf c = 0 ∨ yOf c = 1 := by revert c; decide
  rcases h with h | h <;> rw [h]
  · rfl
  · exact add_comm (G := EReal) _ _

end Cert.KernelIdeal.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

/-!
# The claims

The kernel's run is proved once, for any float values, in Proof/Launch.lean; both frames of the kernel and its side of the value claim are read off it.
-/

namespace Cert.Proof

open Idealize.ShloMosaic Idealize.SL.Sem Cert.Kernel

/-- The kernel runs on its hardware floats, leaves its arguments alone and returns every semaphore to zero. -/
theorem frame_kernel : Cert.quiescent_Kernel := fun m ρ _ =>
  (θ_run Cert.KernelIdeal.defs _ _).mono (fun _ h => ⟨fun c => (h.1 c).1, h.2⟩) (Cert.KernelIdeal.AllReduce.run_main (F := Bits) m ρ)

/-- So does the kernel on extended reals. -/
theorem frame_ideal : Cert.quiescent_KernelIdeal := fun m ρ _ =>
  (θ_run Cert.KernelIdeal.defs _ _).mono (fun _ h => ⟨fun c => (h.1 c).1, h.2⟩) (Cert.KernelIdeal.AllReduce.run_main (F := Ideal) m ρ)

/-- So does the reference, which has no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- On extended reals, with each device holding its block of the reference's array, every device's result is the reference's. -/
theorem value : Cert.algebraic_KernelIdeal_ReferenceIdeal := fun m ρ m' ρ' _ hm => by
  refine ⟨Cert.KernelIdeal.AllReduce.sumRef (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans ?_, (h.1 c).1⟩) (Cert.KernelIdeal.AllReduce.run_main (F := Ideal) m ρ),
    (θ_run Cert.ReferenceIdeal.defs _ _).mono (fun _ h => ⟨(h 0).1, (h 0).2⟩) (Cert.ReferenceIdeal.Value.run (F := Ideal) m' ρ')⟩
  exact Cert.KernelIdeal.AllReduce.result_eq _ _ (fun d i => (congrFun (hm d) i).trans (Cert.KernelIdeal.AllReduce.block_apply _ d _ i)) c

/-- Everything claimed. -/
theorem claim : Cert.Claim :=
  ⟨Cert.Kernel.Gen.facts, Cert.KernelIdeal.Gen.facts, Cert.ReferenceIdeal.Gen.facts, frame_kernel, frame_ideal, frame_reference, trivial, value⟩

end Cert.Proof

end
